-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.blockN ⟨3, ![1, 2048, 1024]⟩ ⟨3, ![2, 2048, 1024]⟩ (Layout.meshBlock [2, 2] ![[1], [], []] c) (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v15)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v26) = Layout.blockN ⟨2, ![1024, 1024]⟩ ⟨2, ![2048, 1024]⟩ (Layout.meshBlock [2, 2] ![[1], []] c) v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v15) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S1x2048x1024 : Shape := ⟨3, ![1, 2048, 1024]⟩
abbrev S1024 : Shape := ⟨1, ![1024]⟩
abbrev S2048x1024 : Shape := ⟨2, ![2048, 1024]⟩
abbrev S_ : Shape := ⟨0, ![]⟩
abbrev S512x1024 : Shape := ⟨2, ![512, 1024]⟩
abbrev S1x1024 : Shape := ⟨2, ![1, 1024]⟩
abbrev S1024x1024 : Shape := ⟨2, ![1024, 1024]⟩
abbrev S8 : Shape := ⟨1, ![8]⟩
abbrev S1 : Shape := ⟨1, ![1]⟩
abbrev S64x1024 : Shape := ⟨2, ![64, 1024]⟩
abbrev S64 : Shape := ⟨1, ![64]⟩
abbrev S64x1 : Shape := ⟨2, ![64, 1]⟩

abbrev nBuf : Space → Nat
  | .hbm => 43
  | .vmem => 7
  | .smem => 0
  | _ => 0

abbrev bufTy : (tb : Table) → Fin (tcTables nBuf tb) → BufTy
  | .hbm, ⟨0, _⟩ => ⟨S1x2048x1024, .bf16⟩
  | .hbm, ⟨1, _⟩ => ⟨S1024, .bf16⟩
  | .hbm, ⟨2, _⟩ => ⟨S2048x1024, .bf16⟩
  | .hbm, ⟨3, _⟩ => ⟨S_, .i32⟩
  | .hbm, ⟨4, _⟩ => ⟨S_, .i32⟩
  | .hbm, ⟨5, _⟩ => ⟨S_, .i32⟩
  | .hbm, ⟨6, _⟩ => ⟨S_, .i32⟩
  | .hbm, ⟨7, _⟩ => ⟨S_, .i32⟩
  | .hbm, ⟨8, _⟩ => ⟨S_, .i32⟩
  | .hbm, ⟨9, _⟩ => ⟨S_, .i32⟩
  | .hbm, ⟨10, _⟩ => ⟨S_, .i32⟩
  | .hbm, ⟨11, _⟩ => ⟨S_, .i32⟩
  | .hbm, ⟨12, _⟩ => ⟨S_, .i32⟩
  | .hbm, ⟨13, _⟩ => ⟨S_, .i32⟩
  | .hbm, ⟨14, _⟩ => ⟨S_, .i32⟩
  | .hbm, ⟨15, _⟩ => ⟨S_, .i32⟩
  | .hbm, ⟨16, _⟩ => ⟨S_, .i32⟩
  | .hbm, ⟨17, _⟩ => ⟨S_, .i32⟩
  | .hbm, ⟨18, _⟩ => ⟨S_, .i32⟩
  | .hbm, ⟨19, _⟩ => ⟨S_, .i32⟩
  | .hbm, ⟨20, _⟩ => ⟨S_, .i32⟩
  | .hbm, ⟨21, _⟩ => ⟨S_, .i32⟩
  | .hbm, ⟨22, _⟩ => ⟨S_, .i32⟩
  | .hbm, ⟨23, _⟩ => ⟨S_, .i32⟩
  | .hbm, ⟨24, _⟩ => ⟨S_, .i32⟩
  | .hbm, ⟨25, _⟩ => ⟨S_, .i32⟩
  | .hbm, ⟨26, _⟩ => ⟨S_, .i32⟩
  | .hbm, ⟨27, _⟩ => ⟨S_, .i32⟩
  | .hbm, ⟨28, _⟩ => ⟨S_, .i1⟩
  | .hbm, ⟨29, _⟩ => ⟨S_, .i32⟩
  | .hbm, ⟨30, _⟩ => ⟨S_, .i32⟩
  | .hbm, ⟨31, _⟩ => ⟨S_, .i32⟩
  | .hbm, ⟨32, _⟩ => ⟨S_, .i32⟩
  | .hbm, ⟨33, _⟩ => ⟨S512x1024, .bf16⟩
  | .hbm, ⟨34, _⟩ => ⟨S_, .i32⟩
  | .hbm, ⟨35, _⟩ => ⟨S_, .i1⟩
  | .hbm, ⟨36, _⟩ => ⟨S_, .i32⟩
  | .hbm, ⟨37, _⟩ => ⟨S_, .i32⟩
  | .hbm, ⟨38, _⟩ => ⟨S_, .i32⟩
  | .hbm, ⟨39, _⟩ => ⟨S_, .i32⟩
  | .hbm, ⟨40, _⟩ => ⟨S512x1024, .bf16⟩
  | .hbm, ⟨41, _⟩ => ⟨S1x1024, .bf16⟩
  | .hbm, ⟨42, _⟩ => ⟨S1024x1024, .f32⟩
  | .local _ .vmem, ⟨0, _⟩ => ⟨S512x1024, .bf16⟩
  | .local _ .vmem, ⟨1, _⟩ => ⟨S512x1024, .bf16⟩
  | .local _ .vmem, ⟨2, _⟩ => ⟨S1x1024, .bf16⟩
  | .local _ .vmem, ⟨3, _⟩ => ⟨S1024x1024, .f32⟩
  | .local _ .vmem, ⟨4, _⟩ => ⟨S512x1024, .bf16⟩
  | .local _ .vmem, ⟨5, _⟩ => ⟨S512x1024, .bf16⟩
  | .local _ .vmem, ⟨6, _⟩ => ⟨S512x1024, .bf16⟩
  | _, _ => ⟨S1x2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 1 → Bool
  | ⟨0, _⟩ => false
  | _ => false

abbrev dmaSemScoped : Fin 36 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | _ => false

abbrev sig : RefSig :=
  (ofTc nBuf bufTy 1 36 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_v1 : Ref sig .tc := ⟨.hbm, 2, rfl⟩
abbrev main_c : Ref sig .tc := ⟨.hbm, 3, rfl⟩
abbrev main_c_0 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_c_1 : Ref sig .tc := ⟨.hbm, 9, rfl⟩
abbrev main_c_2 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_c_3 : Ref sig .tc := ⟨.hbm, 15, rfl⟩
abbrev main_v10 : Ref sig .tc := ⟨.hbm, 16, rfl⟩
abbrev main_c_4 : Ref sig .tc := ⟨.hbm, 17, rfl⟩
abbrev main_v11 : Ref sig .tc := ⟨.hbm, 18, rfl⟩
abbrev main_c_5 : Ref sig .tc := ⟨.hbm, 19, rfl⟩
abbrev main_v12 : Ref sig .tc := ⟨.hbm, 20, rfl⟩
abbrev main_v13 : Ref sig .tc := ⟨.hbm, 21, rfl⟩
abbrev main_c_6 : Ref sig .tc := ⟨.hbm, 22, rfl⟩
abbrev main_v14 : Ref sig .tc := ⟨.hbm, 23, rfl⟩
abbrev main_c_7 : Ref sig .tc := ⟨.hbm, 24, rfl⟩
abbrev main_v15 : Ref sig .tc := ⟨.hbm, 25, rfl⟩
abbrev main_v16 : Ref sig .tc := ⟨.hbm, 26, rfl⟩
abbrev main_c_8 : Ref sig .tc := ⟨.hbm, 27, rfl⟩
abbrev main_v17 : Ref sig .tc := ⟨.hbm, 28, rfl⟩
abbrev main_c_9 : Ref sig .tc := ⟨.hbm, 29, rfl⟩
abbrev main_v18 : Ref sig .tc := ⟨.hbm, 30, rfl⟩
abbrev main_v19 : Ref sig .tc := ⟨.hbm, 31, rfl⟩
abbrev main_c_10 : Ref sig .tc := ⟨.hbm, 32, rfl⟩
abbrev main_v20 : Ref sig .tc := ⟨.hbm, 33, rfl⟩
abbrev main_c_11 : Ref sig .tc := ⟨.hbm, 34, rfl⟩
abbrev main_v21 : Ref sig .tc := ⟨.hbm, 35, rfl⟩
abbrev main_c_12 : Ref sig .tc := ⟨.hbm, 36, rfl⟩
abbrev main_v22 : Ref sig .tc := ⟨.hbm, 37, rfl⟩
abbrev main_v23 : Ref sig .tc := ⟨.hbm, 38, rfl⟩
abbrev main_c_13 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_scratch0 : Ref sig .tc := ⟨.vmem, 4, rfl⟩
abbrev cc0_scratch1 : Ref sig .tc := ⟨.vmem, 5, rfl⟩
abbrev cc0_scratch2 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev barrier0 : Sem sig := 0

abbrev nD : Nat := 4
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_5 : BitVec 32 := 2#32
  let v9 : BitVec 32 := Scalar.muli v2 c2_i32_5
  let v10 : BitVec 32 := Scalar.addi c0_i32 v9
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_6 : BitVec 32 := 1#32
  let v11 : BitVec 32 := Scalar.muli v6 c1_i32_6
  let v12 : BitVec 32 := Scalar.addi v10 v11
  v12.toNat
def k0_dev2 (d0 : Dev nD) : Nat :=
  let c0_i32_9 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_8 : BitVec 32 := 2#32
  let v13 : BitVec 32 := Scalar.muli v7 c2_i32_8
  let v14 : BitVec 32 := Scalar.addi c0_i32_9 v13
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_10 : BitVec 32 := 1#32
  let v15 : BitVec 32 := Scalar.muli v5 c1_i32_10
  let v16 : BitVec 32 := Scalar.addi v14 v15
  v16.toNat
def k0_dev3 (d0 : Dev nD) : Nat :=
  let c0_i32_15 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_14 : BitVec 32 := 2#32
  let v17 : BitVec 32 := Scalar.muli v2 c2_i32_14
  let v18 : BitVec 32 := Scalar.addi c0_i32_15 v17
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_16 : BitVec 32 := 1#32
  let v19 : BitVec 32 := Scalar.muli v6 c1_i32_16
  let v20 : BitVec 32 := Scalar.addi v18 v19
  v20.toNat
def k0_dev4 (d0 : Dev nD) : Nat :=
  let c0_i32_24 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_23 : BitVec 32 := 2#32
  let v27 : BitVec 32 := Scalar.muli v2 c2_i32_23
  let v28 : BitVec 32 := Scalar.addi c0_i32_24 v27
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_25 : BitVec 32 := 1#32
  let v29 : BitVec 32 := Scalar.muli v6 c1_i32_25
  let v30 : BitVec 32 := Scalar.addi v28 v29
  v30.toNat
def k0_dev5 (d0 : Dev nD) : Nat :=
  let c0_i32_32 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_31 : BitVec 32 := 2#32
  let v37 : BitVec 32 := Scalar.muli v2 c2_i32_31
  let v38 : BitVec 32 := Scalar.addi c0_i32_32 v37
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_33 : BitVec 32 := 1#32
  let v39 : BitVec 32 := Scalar.muli v6 c1_i32_33
  let v40 : BitVec 32 := Scalar.addi v38 v39
  v40.toNat
def k0_dev6 (d0 : Dev nD) : Nat :=
  let c0_i32_39 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_38 : BitVec 32 := 2#32
  let v47 : BitVec 32 := Scalar.muli v2 c2_i32_38
  let v48 : BitVec 32 := Scalar.addi c0_i32_39 v47
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_40 : BitVec 32 := 1#32
  let v49 : BitVec 32 := Scalar.muli v6 c1_i32_40
  let v50 : BitVec 32 := Scalar.addi v48 v49
  v50.toNat
def k0_dev7 (d0 : Dev nD) : Nat :=
  let c0_i32_46 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_45 : BitVec 32 := 2#32
  let v57 : BitVec 32 := Scalar.muli v2 c2_i32_45
  let v58 : BitVec 32 := Scalar.addi c0_i32_46 v57
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_47 : BitVec 32 := 1#32
  let v59 : BitVec 32 := Scalar.muli v6 c1_i32_47
  let v60 : BitVec 32 := Scalar.addi v58 v59
  v60.toNat
def k0_dev8 (d0 : Dev nD) : Nat :=
  let c0_i32_53 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_52 : BitVec 32 := 2#32
  let v67 : BitVec 32 := Scalar.muli v2 c2_i32_52
  let v68 : BitVec 32 := Scalar.addi c0_i32_53 v67
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_54 : BitVec 32 := 1#32
  let v69 : BitVec 32 := Scalar.muli v6 c1_i32_54
  let v70 : BitVec 32 := Scalar.addi v68 v69
  v70.toNat
def k0_dev9 (d0 : Dev nD) : Nat :=
  let c0_i32_60 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_59 : BitVec 32 := 2#32
  let v77 : BitVec 32 := Scalar.muli v2 c2_i32_59
  let v78 : BitVec 32 := Scalar.addi c0_i32_60 v77
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_61 : BitVec 32 := 1#32
  let v79 : BitVec 32 := Scalar.muli v6 c1_i32_61
  let v80 : BitVec 32 := Scalar.addi v78 v79
  v80.toNat
def k0_dev10 (d0 : Dev nD) : Nat :=
  let c0_i32_67 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_66 : BitVec 32 := 2#32
  let v87 : BitVec 32 := Scalar.muli v2 c2_i32_66
  let v88 : BitVec 32 := Scalar.addi c0_i32_67 v87
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_68 : BitVec 32 := 1#32
  let v89 : BitVec 32 := Scalar.muli v6 c1_i32_68
  let v90 : BitVec 32 := Scalar.addi v88 v89
  v90.toNat
def k0_dev11 (d0 : Dev nD) : Nat :=
  let c0_i32_89 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_88 : BitVec 32 := 2#32
  let v112 : BitVec 32 := Scalar.muli v7 c2_i32_88
  let v113 : BitVec 32 := Scalar.addi c0_i32_89 v112
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_90 : BitVec 32 := 1#32
  let v114 : BitVec 32 := Scalar.muli v5 c1_i32_90
  let v115 : BitVec 32 := Scalar.addi v113 v114
  v115.toNat
def k0_off1 (d0 : Dev nD) (c0_i32_99 : BitVec 32) : Fin 2 → Nat :=
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c512_i32 : BitVec 32 := 512#32
  let v138 : BitVec 32 := Scalar.muli v2 c512_i32
  let v139 : BitVec 32 := Scalar.addi v138 c0_i32_99
  let v140 : Index := Scalar.indexCast v139
  let c0_100 : Index := 0#32
  ![v140.toNat, 0]
def k0_dev12 (d0 : Dev nD) : Nat :=
  let c0_i32_118 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_117 : BitVec 32 := 2#32
  let v157 : BitVec 32 := Scalar.muli v7 c2_i32_117
  let v158 : BitVec 32 := Scalar.addi c0_i32_118 v157
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_119 : BitVec 32 := 1#32
  let v159 : BitVec 32 := Scalar.muli v5 c1_i32_119
  let v160 : BitVec 32 := Scalar.addi v158 v159
  v160.toNat
def k0_dev13 (d0 : Dev nD) : Nat :=
  let c0_i32_149 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_148 : BitVec 32 := 2#32
  let v202 : BitVec 32 := Scalar.muli v7 c2_i32_148
  let v203 : BitVec 32 := Scalar.addi c0_i32_149 v202
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_150 : BitVec 32 := 1#32
  let v204 : BitVec 32 := Scalar.muli v5 c1_i32_150
  let v205 : BitVec 32 := Scalar.addi v203 v204
  v205.toNat
def k0_dev14 (d0 : Dev nD) : Nat :=
  let c0_i32_180 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_179 : BitVec 32 := 2#32
  let v247 : BitVec 32 := Scalar.muli v7 c2_i32_179
  let v248 : BitVec 32 := Scalar.addi c0_i32_180 v247
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_181 : BitVec 32 := 1#32
  let v249 : BitVec 32 := Scalar.muli v5 c1_i32_181
  let v250 : BitVec 32 := Scalar.addi v248 v249
  v250.toNat
def k0_dev15 (d0 : Dev nD) : Nat :=
  let c0_i32_211 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_210 : BitVec 32 := 2#32
  let v292 : BitVec 32 := Scalar.muli v7 c2_i32_210
  let v293 : BitVec 32 := Scalar.addi c0_i32_211 v292
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_212 : BitVec 32 := 1#32
  let v294 : BitVec 32 := Scalar.muli v5 c1_i32_212
  let v295 : BitVec 32 := Scalar.addi v293 v294
  v295.toNat
def k0_dev16 (d0 : Dev nD) : Nat :=
  let c0_i32_242 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_241 : BitVec 32 := 2#32
  let v337 : BitVec 32 := Scalar.muli v7 c2_i32_241
  let v338 : BitVec 32 := Scalar.addi c0_i32_242 v337
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_243 : BitVec 32 := 1#32
  let v339 : BitVec 32 := Scalar.muli v5 c1_i32_243
  let v340 : BitVec 32 := Scalar.addi v338 v339
  v340.toNat
def k0_dev17 (d0 : Dev nD) : Nat :=
  let c0_i32_273 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_272 : BitVec 32 := 2#32
  let v382 : BitVec 32 := Scalar.muli v7 c2_i32_272
  let v383 : BitVec 32 := Scalar.addi c0_i32_273 v382
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_274 : BitVec 32 := 1#32
  let v384 : BitVec 32 := Scalar.muli v5 c1_i32_274
  let v385 : BitVec 32 := Scalar.addi v383 v384
  v385.toNat
def k0_dev18 (d0 : Dev nD) : Nat :=
  let c0_i32_304 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_303 : BitVec 32 := 2#32
  let v427 : BitVec 32 := Scalar.muli v7 c2_i32_303
  let v428 : BitVec 32 := Scalar.addi c0_i32_304 v427
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_305 : BitVec 32 := 1#32
  let v429 : BitVec 32 := Scalar.muli v5 c1_i32_305
  let v430 : BitVec 32 := Scalar.addi v428 v429
  v430.toNat
def k0_off2 (d0 : Dev nD) (c0_i32_336 : BitVec 32) : Fin 2 → Nat :=
  let c1_i32_334 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v482 : BitVec 32 := Scalar.subi c1_i32_334 v2
  let c512_i32_335 : BitVec 32 := 512#32
  let v483 : BitVec 32 := Scalar.muli v482 c512_i32_335
  let v484 : BitVec 32 := Scalar.addi v483 c0_i32_336
  let v485 : Index := Scalar.indexCast v484
  let c0_337 : Index := 0#32
  ![v485.toNat, 0]
abbrev stage0_0 : Fin 1 → Memref sig .tc .vmem S512x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S512x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1024x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
-- ==== ReferenceIdeal.lean ====
abbrev S2x2048x1024 : Shape := ⟨3, ![2, 2048, 1024]⟩
abbrev S1024 : Shape := ⟨1, ![1024]⟩
abbrev S_ : Shape := ⟨0, ![]⟩
abbrev S2048x1024 : Shape := ⟨2, ![2048, 1024]⟩
abbrev S2048 : Shape := ⟨1, ![2048]⟩
abbrev S2048x1 : Shape := ⟨2, ![2048, 1]⟩
abbrev S1x1024 : Shape := ⟨2, ![1, 1024]⟩

abbrev nBuf : Space → Nat
  | .hbm => 22
  | .vmem => 0
  | .smem => 0
  | _ => 0

abbrev bufTy : (tb : Table) → Fin (tcTables nBuf tb) → BufTy
  | .hbm, ⟨0, _⟩ => ⟨S2x2048x1024, .bf16⟩
  | .hbm, ⟨1, _⟩ => ⟨S1024, .bf16⟩
  | .hbm, ⟨2, _⟩ => ⟨S2x2048x1024, .f32⟩
  | .hbm, ⟨3, _⟩ => ⟨S1024, .f32⟩
  | .hbm, ⟨4, _⟩ => ⟨S_, .f32⟩
  | .hbm, ⟨5, _⟩ => ⟨S2048x1024, .f32⟩
  | .hbm, ⟨6, _⟩ => ⟨S2048x1024, .f32⟩
  | .hbm, ⟨7, _⟩ => ⟨S_, .f32⟩
  | .hbm, ⟨8, _⟩ => ⟨S2048, .f32⟩
  | .hbm, ⟨9, _⟩ => ⟨S2048x1, .f32⟩
  | .hbm, ⟨10, _⟩ => ⟨S_, .f32⟩
  | .hbm, ⟨11, _⟩ => ⟨S2048x1, .f32⟩
  | .hbm, ⟨12, _⟩ => ⟨S2048x1, .f32⟩
  | .hbm, ⟨13, _⟩ => ⟨S_, .f32⟩
  | .hbm, ⟨14, _⟩ => ⟨S2048x1, .f32⟩
  | .hbm, ⟨15, _⟩ => ⟨S2048x1, .f32⟩
  | .hbm, ⟨16, _⟩ => ⟨S2048x1, .f32⟩
  | .hbm, ⟨17, _⟩ => ⟨S2048x1024, .f32⟩
  | .hbm, ⟨18, _⟩ => ⟨S2048x1024, .f32⟩
  | .hbm, ⟨19, _⟩ => ⟨S1x1024, .f32⟩
  | .hbm, ⟨20, _⟩ => ⟨S2048x1024, .f32⟩
  | .hbm, ⟨21, _⟩ => ⟨S2048x1024, .f32⟩
  | _, _ => ⟨S2x2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_cst_1 : Ref sig .tc := ⟨.hbm, 10, rfl⟩
abbrev main_v6 : Ref sig .tc := ⟨.hbm, 11, rfl⟩
abbrev main_v7 : Ref sig .tc := ⟨.hbm, 12, rfl⟩
abbrev main_cst_2 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩

abbrev nD : Nat := 1
abbrev τ : Topo := Topo.v7x

variable {F : FTy → Type} [FloatOps F]
-- ==== Proof.Ideal.Common.lean ====
/- The exchange's vocabulary: devices and their neighbours, the four chunked buffers and the semaphores that guard them, the schedule of
   payments, what each device owes at launch, and the levels of the waits. -/
module

public import proofs.«01_k».proof.Proof.Gen.KernelIdeal.Launch
public import proofs.«01_k».proof.Proof.Gen.KernelIdeal.Skeleton
public import proofs.«01_k».proof.Proof.Gen.KernelIdeal.Points
public import proofs.«01_k».proof.Proof.Gen.KernelIdeal.Regions
public import Idealize.ShloMosaic.Lib.Pipeline.Regions
public import Idealize.ShloMosaic.Lib.Pipeline.Kit
public import Idealize.ShloMosaic.Lib.Pipeline.RegionTalk
public import Idealize.ShloMosaic.Lib.Rounds
public import Idealize.ShloMosaic.Lib.Ring
public import Idealize.ShloMosaic.Lib.Pipeline.Value
public import Idealize.ShloMosaic.Lib.StableHlo
public import Idealize.ShloMosaic.Lib.Tactic
public import Idealize.ShloMosaic.PureOps
public import Idealize.ShloMosaic.Harness.Basic

@[expose] public section

noncomputable section

namespace Cert.KernelIdeal.Talk

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg BodyObligation cellOf)
open Cert.KernelIdeal Cert.KernelIdeal.Gen

variable {F : FTy → Type} [FloatOps F]

/-! ## Devices -/

/-- The neighbour along `y`: the device `(x, 1 - y)`. -/
def yN (c : Dev nD) : Dev nD := ⟨(2 * (c.val / 2) + 1) - c.val % 2, by have := c.isLt; simp only [nD] at this ⊢; omega⟩
/-- The neighbour along `x`: the device `(1 - x, y)`. -/
def xN (c : Dev nD) : Dev nD := ⟨(c.val + 2) % 4, Nat.mod_lt _ (by decide)⟩

theorem yN_yN (c : Dev nD) : yN (yN c) = c := by revert c; decide
theorem xN_xN (c : Dev nD) : xN (xN c) = c := by revert c; decide

def yEquiv : Dev nD ≃ Dev nD := ⟨yN, yN, yN_yN, yN_yN⟩
def xEquiv : Dev nD ≃ Dev nD := ⟨xN, xN, xN_xN, xN_xN⟩

/-! ## Buffers, chunks, semaphores -/

/-- The exchange's four buffers of 512 rows: what goes to the `y` neighbour, what comes from it, what goes on to the `x` neighbour, what comes
    from that one. -/
abbrev M : Fin 4 → Memref sig .tc .vmem S512x1024 .bf16
  | 0 => Memref.whole cc0_stg0_0
  | 1 => Memref.whole cc0_scratch0
  | 2 => Memref.whole cc0_scratch1
  | 3 => Memref.whole cc0_scratch2

abbrev plM : Memref sig .tc .vmem S512x1024 .bf16 := Memref.whole cc0_stg1_0
abbrev gM : Memref sig .tc .vmem S1x1024 .bf16 := Memref.whole cc0_stg2_0
abbrev outM : Memref sig .tc .vmem S1024x1024 .f32 := Memref.whole cc0_stg3_0

theorem inbCh (k : Fin 8) : ∀ a, (![64 * k.val, 0] : Fin 2 → ℕ) a + S64x1024.size a ≤ S512x1024.size a := by revert k; decide
theorem inbOut (q : Fin 16) : ∀ a, (![64 * q.val, 0] : Fin 2 → ℕ) a + S64x1024.size a ≤ S1024x1024.size a := by revert q; decide

/-- The rectangle of chunk `k`: 64 rows. -/
abbrev chR (k : Fin 8) : Rect S512x1024 := Rect.unit (s := S512x1024) ![64 * k.val, 0] S64x1024.size (inbCh k)
abbrev outR (q : Fin 16) : Rect S1024x1024 := Rect.unit (s := S1024x1024) ![64 * q.val, 0] S64x1024.size (inbOut q)

/-- Chunk `k` of buffer `a`. -/
abbrev ch (a : Fin 4) (k : Fin 8) : Memref sig .tc .vmem S64x1024 .bf16 := (M a).slice (chR k) (fun _ => rfl)

/-- The semaphore that says chunk `k` of buffer `a` is back in its owner's hands. -/
def sm (a : Fin 4) (k : Fin 8) : DmaSem sig := ⟨4 + 8 * a.val + k.val, by have := a.isLt; have := k.isLt; show _ < 36; omega⟩
abbrev barS : Sem sig := sig.barrier 0 rfl

abbrev barCell (c : Dev nD) : GSem nD τ sig := ((c : Thread nD τ), .reg barS)
abbrev cell (c : Dev nD) (a : Fin 4) (k : Fin 8) : GSem nD τ sig := ((c : Thread nD τ), .dma (sm a k))

/-- The amount one chunk's transfer adds. -/
abbrev N : ℕ := (ch 0 0).view.dmaCredit
theorem N_pos : 0 < N := View.dmaCredit_pos _ (by decide)
theorem credit_eq (a : Fin 4) (k : Fin 8) : (ch a k).view.dmaCredit = N := by
  fin_cases a <;> rfl

/-! ## The resource algebra -/

abbrev UU : Type := UR sig nD τ × URounds (GSem nD τ sig) Bool

local notation "𝕄" => MT nD τ sig Unit (Elt F) ℕ UU ℕ

abbrev EP : Emb (UR sig nD τ) (MT nD τ sig Unit (Elt F) ℕ UU ℕ) := embL
abbrev ER : Emb (URounds (GSem nD τ sig) Bool) (MT nD τ sig Unit (Elt F) ℕ UU ℕ) := embR

/-! ## Contents -/

abbrev Half : Type := (⟨S512x1024, .bf16⟩ : BufTy).Contents (Elt F)
abbrev Chunk : Type := Vec F S64x1024 .bf16
abbrev Gam : Type := Vec F S1x1024 .bf16

/-- What the devices start with: the rows each sends, the rows each keeps, the scale. -/
structure Start (F : FTy → Type) where
  ps : Dev nD → (⟨S512x1024, .bf16⟩ : BufTy).Contents (Elt F)
  pl : Dev nD → (⟨S512x1024, .bf16⟩ : BufTy).Contents (Elt F)
  g : Dev nD → (⟨S1x1024, .bf16⟩ : BufTy).Contents (Elt F)

/-- Chunk `k` of half a block. -/
def rdc (v : Half (F := F)) (k : Fin 8) : Chunk (F := F) := fun x => v ((chR k).emb x)

/-- The sum a device makes of chunk `k`: what came from its `y` neighbour, with its own. -/
def sumv (s : Start F) (c : Dev nD) (k : Fin 8) : Chunk (F := F) := k0_pay1 (rdc (s.ps (yN c)) k) (rdc (s.pl c) k)

/-- What chunk `k` of buffer `a` reads as, once it is where it should be. -/
def cont (s : Start F) (c : Dev nD) (a : Fin 4) (k : Fin 8) : Chunk (F := F) :=
  match a with
  | 0 => rdc (s.ps c) k
  | 1 => rdc (s.ps (yN c)) k
  | 2 => sumv s c k
  | 3 => sumv s (xN c) k

/-- The normalised rows a chunk becomes. -/
def nrm (s : Start F) (c : Dev nD) (v : Chunk (F := F)) : Vec F S64x1024 .f32 := k0_pay29 v (s.g c)

theorem cont_y (s : Start F) (c : Dev nD) (k : Fin 8) : cont s (yN c) 1 k = cont s c 0 k := by
  show rdc (s.ps (yN (yN c))) k = rdc (s.ps c) k; rw [yN_yN]
theorem cont_x (s : Start F) (c : Dev nD) (k : Fin 8) : cont s (xN c) 3 k = cont s c 2 k := by
  show sumv s (xN (xN c)) k = sumv s c k; rw [xN_xN]

/-! ## Points-tos -/

/-- Chunk `k` of device `c`'s buffer `a`, reading as `v`. -/
def pts (a : Fin 4) (c : Dev nD) (k : Fin 8) (v : Chunk (F := F)) : sProp 𝕄 :=
  iprop(∃ f : Buf (Elt F) ((ch a k).view.loc (c : Thread nD τ)), ⌜(ch a k).view.read (Elt F) f = v⌝
    ∗ ((ch a k).view.loc (c : Thread nD τ) ↦[(ch a k).view.set]{fullShare} f))

def ptsAny (a : Fin 4) (c : Dev nD) (k : Fin 8) : sProp 𝕄 := iprop(∃ v, pts a c k v)

abbrev outV (q : Fin 16) : View sig .tc .vmem S64x1024 .f32 := outM.access (outR q)

/-- Row block `q` of device `c`'s result, reading as `w`. -/
def outP (c : Dev nD) (q : Fin 16) (w : Vec F S64x1024 .f32) : sProp 𝕄 :=
  iprop(∃ f : Buf (Elt F) ((outV q).loc (c : Thread nD τ)), ⌜(outV q).read (Elt F) f = w⌝
    ∗ ((outV q).loc (c : Thread nD τ) ↦[(outV q).set]{fullShare} f))
def outAny (c : Dev nD) (q : Fin 16) : sProp 𝕄 := iprop(∃ w, outP c q w)

/-- Where chunk `k` of the own half goes, and of the other half. -/
def ownQ (c : Dev nD) (k : Fin 8) : Fin 16 := ⟨8 * (c.val / 2) + k.val, by have := c.isLt; have := k.isLt; simp only [nD] at *; omega⟩
def othQ (c : Dev nD) (k : Fin 8) : Fin 16 := ⟨8 * (1 - c.val / 2) + k.val, by have := k.isLt; omega⟩

def plPts (s : Start F) (c : Dev nD) : sProp 𝕄 := iprop((plM.view.loc (c : Thread nD τ)) ↦{fullShare} s.pl c)
def gPts (s : Start F) (c : Dev nD) : sProp 𝕄 := iprop((gM.view.loc (c : Thread nD τ)) ↦{fullShare} s.g c)

/-! ## The schedule -/

/-- What a device hands over with its signal: the neighbour may write its buffer `a`, whose cells are at round 0. -/
def offer (a : Fin 4) (p : Dev nD) : sProp 𝕄 :=
  bigSep Finset.univ fun k : Fin 8 => iprop(ptsAny (F := F) a p k ∗ reached ER (cell p a k) 0)

def barPay (c : Dev nD) (d : Bool) : sProp 𝕄 := if d = false then offer (F := F) 1 (yN c) else offer 3 (xN c)

def aOf (s : DmaSem sig) : Fin 4 := ⟨((s : Fin 36).val - 4) / 8 % 4, Nat.mod_lt _ (by decide)⟩
def kOf (s : DmaSem sig) : Fin 8 := ⟨((s : Fin 36).val - 4) % 8, Nat.mod_lt _ (by decide)⟩

theorem aOf_sm (a : Fin 4) (k : Fin 8) : aOf (sm a k) = a := by revert a k; decide
theorem kOf_sm (a : Fin 4) (k : Fin 8) : kOf (sm a k) = k := by revert a k; decide
theorem sm_le (a : Fin 4) (k : Fin 8) : 4 ≤ (sm a k : Fin 36).val := by revert a k; decide

def dmaPay (s : Start F) (c : Dev nD) (q : DmaSem sig) : sProp 𝕄 := pts (aOf q) c (kOf q) (cont s c (aOf q) (kOf q))

/-- One round: both neighbours pay a device's barrier cell, and every chunk's cell is paid once. -/
def Rd (s : Start F) : Rounds.Schedule (GSem nD τ sig) Bool 𝕄 where
  duties g r := if r = 0 ∧ g.1.2 = .tc then
    (match g.2 with | .reg _ => {false, true} | .dma q => if 4 ≤ (q : Fin 36).val then {false} else ∅) else ∅
  unitless _ := False
  amount g _ _ := match g.2 with | .reg _ => 1 | .dma _ => N
  payload g _ d := match g.2 with | .reg _ => barPay g.1.1 d | .dma q => dmaPay s g.1.1 q
  amount_pos g _ _ _ := by
    split
    · exact Nat.one_pos
    · exact N_pos

instance pts_storable (a : Fin 4) (c : Dev nD) (k : Fin 8) (v : Chunk (F := F)) : BI.Storable (upEmb : UEmb _ 𝕄) (pts a c k v) := by
  unfold pts; infer_instance

instance Rd_storable (s : Start F) (g : GSem nD τ sig) (r : ℕ) (d : Bool) : BI.Storable (upEmb : UEmb _ 𝕄) ((Rd s).payload g r d) := by
  show BI.Storable upEmb (match g.2 with | .reg _ => barPay g.1.1 d | .dma q => dmaPay s g.1.1 q)
  unfold barPay dmaPay offer ptsAny
  (repeat' split) <;> infer_instance

section Sched

variable (s : Start F) (c : Dev nD) (a : Fin 4) (k : Fin 8)

theorem duties_bar : (Rd s).duties (barCell c) 0 = {false, true} := by dsimp only [Rd]; exact if_pos ⟨rfl, rfl⟩
theorem duties_cell : (Rd s).duties (cell c a k) 0 = {false} := by
  dsimp only [Rd]; rw [if_pos ⟨rfl, rfl⟩, if_pos (sm_le a k)]
theorem duties_later (g : GSem nD τ sig) : ∀ r, 1 ≤ r → (Rd s).duties g r = ∅ :=
  fun r hr => by dsimp only [Rd]; rw [if_neg (fun h => by omega)]
theorem amount_bar (d : Bool) : (Rd s).amount (barCell c) 0 d = 1 := rfl
theorem amount_cell (d : Bool) : (Rd s).amount (cell c a k) 0 d = N := rfl
theorem expect_bar : (Rd s).expect (barCell c) 0 = 2 := by
  unfold Schedule.expect Schedule.amountOf; rw [duties_bar]; rfl
theorem expect_cell : (Rd s).expect (cell c a k) 0 = N := by
  unfold Schedule.expect Schedule.amountOf; rw [duties_cell, Finset.sum_singleton, amount_cell]
theorem payload_bar_y : (Rd s).payload (barCell c) 0 false = offer 1 (yN c) := rfl
theorem payload_bar_x : (Rd s).payload (barCell c) 0 true = offer 3 (xN c) := rfl
theorem payload_cell (d : Bool) : (Rd s).payload (cell c a k) 0 d = pts a c k (cont s c a k) := by
  show dmaPay s c (sm a k) = _; unfold dmaPay; rw [aOf_sm, kOf_sm]
theorem rest_bar : bigSep ((Rd s).duties (barCell c) 0 \ ∅) (fun d => (Rd s).payload (barCell c) 0 d)
    = iprop(offer 1 (yN c) ∗ offer 3 (xN c)) := by
  rw [Finset.sdiff_empty, duties_bar, bigSep_insert (by decide), bigSep_singleton]; rfl
theorem rest_cell : bigSep ((Rd s).duties (cell c a k) 0 \ ∅) (fun d => (Rd s).payload (cell c a k) 0 d) = pts a c k (cont s c a k) := by
  rw [Finset.sdiff_empty, duties_cell, bigSep_singleton, payload_cell]

end Sched

/-! ## Debts and levels -/

/-- What device `c` owes with its chunks at stages `f`: the `y` transfers not yet made, the `x` transfers not yet made. -/
def owed (c : Dev nD) (f : Fin 8 → ℕ) : CellTallies nD τ sig Unit :=
  (∑ j, if f j < 1 then tallyAt (cell (yN c) 1 j) () N else 0) + ∑ j, if f j < 4 then tallyAt (cell (xN c) 3 j) () N else 0

/-- What it owes at launch: all of those, and the two signals. -/
def O₀ (c : Dev nD) : CellTallies nD τ sig Unit :=
  owed c (fun _ => 0) + tallyAt (barCell (xN c)) () 1 + tallyAt (barCell (yN c)) () 1

def L (g : GSem nD τ sig) : Finset Unit := if g.1.2 = .tc then {()} else ∅
/-- Barrier cells at 1, the chunks from the `y` neighbour at 2, those from the `x` neighbour at 3, the rest at 0. -/
def lv (g : GSem nD τ sig) (_ : Unit) : ℕ :=
  match g.2 with
  | .reg _ => 1
  | .dma q => if aOf q = 1 then 2 else if aOf q = 3 then 3 else 0

theorem L_of_ne (g : GSem nD τ sig) (h : g.1.2 ≠ .tc) : L g = ∅ := if_neg h
theorem L_tc (c : Dev nD) (sm : SemLoc sig) : L ((c : Thread nD τ), sm) = {()} := if_pos rfl
theorem lv_cell (c : Dev nD) (a : Fin 4) (k : Fin 8) : lv (cell c a k) () = if a = 1 then 2 else if a = 3 then 3 else 0 := by
  show (if aOf (sm a k) = 1 then 2 else if aOf (sm a k) = 3 then 3 else 0) = _; rw [aOf_sm]

theorem tally_ite_apply (P : Prop) [Decidable P] (g g' : GSem nD τ sig) (n : ℕ) (u : Unit)
    (h : 0 < (if P then tallyAt g () n else (0 : CellTallies nD τ sig Unit)) g' u) : P ∧ g' = g := by
  by_cases hP : P
  · rw [if_pos hP, tallyAt_apply] at h
    by_cases hg : g' = g ∧ u = ()
    · exact ⟨hP, hg.1⟩
    · rw [if_neg hg] at h; exact absurd h (Nat.lt_irrefl 0)
  · rw [if_neg hP] at h; exact absurd h (Nat.lt_irrefl 0)

theorem sum_pos (u : Fin 8 → CellTallies nD τ sig Unit) (g : GSem nD τ sig) (i : Unit) (h : 0 < (∑ j, u j) g i) : ∃ j, 0 < u j g i := by
  rw [Finset.sum_apply, Finsupp.finset_sum_apply] at h
  by_contra hn
  rw [Finset.sum_eq_zero (fun j _ => Nat.eq_zero_of_not_pos fun hj => hn ⟨j, hj⟩)] at h
  exact absurd h (Nat.lt_irrefl 0)

theorem owed_pos (c : Dev nD) (f : Fin 8 → ℕ) (g : GSem nD τ sig) (u : Unit) (h : 0 < owed c f g u) :
    (∃ j, f j < 1 ∧ g = cell (yN c) 1 j) ∨ ∃ j, f j < 4 ∧ g = cell (xN c) 3 j := by
  have h2 : 0 < (∑ j, if f j < 1 then tallyAt (cell (yN c) 1 j) () N else (0 : CellTallies nD τ sig Unit)) g u
      + (∑ j, if f j < 4 then tallyAt (cell (xN c) 3 j) () N else (0 : CellTallies nD τ sig Unit)) g u := h
  rcases Nat.add_pos_iff_pos_or_pos.mp h2 with h | h
  · obtain ⟨j, hj⟩ := sum_pos _ _ _ h; exact .inl ⟨j, tally_ite_apply _ _ _ _ _ hj⟩
  · obtain ⟨j, hj⟩ := sum_pos _ _ _ h; exact .inr ⟨j, tally_ite_apply _ _ _ _ _ hj⟩

theorem sum_turn {A : Type} [AddCommMonoid A] (P : Fin 8 → ℕ → A) (f : Fin 8 → ℕ) (k : Fin 8) (s : ℕ) :
    (∑ j, P j (Function.update f k s j)) + P k (f k) = (∑ j, P j (f j)) + P k s := by
  have h1 : (∑ j, P j (Function.update f k s j)) = P k s + ∑ j ∈ Finset.univ.erase k, P j (f j) := by
    rw [← Finset.add_sum_erase Finset.univ (fun j => P j (Function.update f k s j)) (Finset.mem_univ k), Function.update_self,
      Finset.sum_congr rfl (g := fun j => P j (f j)) (fun j hj => by rw [Function.update_of_ne (Finset.ne_of_mem_erase hj)])]
  rw [h1, ← Finset.add_sum_erase Finset.univ (fun j => P j (f j)) (Finset.mem_univ k), add_right_comm, add_comm (P k s), add_right_comm]

theorem sum_same {A : Type} [AddCommMonoid A] (P : Fin 8 → ℕ → A) (f : Fin 8 → ℕ) (k : Fin 8) (s : ℕ) (h : P k s = P k (f k)) :
    (∑ j, P j (Function.update f k s j)) = ∑ j, P j (f j) :=
  Finset.sum_congr rfl fun j _ => by
    by_cases hj : j = k
    · subst hj; rw [Function.update_self, h]
    · rw [Function.update_of_ne hj]

theorem owed_same (c : Dev nD) (f : Fin 8 → ℕ) (k : Fin 8) (s : ℕ) (h1 : s < 1 ↔ f k < 1) (h4 : s < 4 ↔ f k < 4) :
    owed c (Function.update f k s) = owed c f := by
  unfold owed
  rw [sum_same (fun j n => if n < 1 then tallyAt (cell (yN c) 1 j) () N else 0) f k s (if_congr h1 rfl rfl),
    sum_same (fun j n => if n < 4 then tallyAt (cell (xN c) 3 j) () N else 0) f k s (if_congr h4 rfl rfl)]

theorem owed_y (c : Dev nD) (f : Fin 8 → ℕ) (k : Fin 8) (h : f k = 0) :
    owed c f = owed c (Function.update f k 1) + tallyAt (cell (yN c) 1 k) () N := by
  have e := sum_turn (fun j n => if n < 1 then tallyAt (cell (yN c) 1 j) () N else (0 : CellTallies nD τ sig Unit)) f k 1
  rw [h, if_pos (by decide : (0 : ℕ) < 1), if_neg (by decide : ¬ (1 : ℕ) < 1), add_zero] at e
  unfold owed
  rw [← e, sum_same (fun j n => if n < 4 then tallyAt (cell (xN c) 3 j) () N else 0) f k 1 (if_congr (by rw [h]; decide) rfl rfl)]
  exact add_right_comm _ _ _

theorem owed_x (c : Dev nD) (f : Fin 8 → ℕ) (k : Fin 8) (h : f k = 3) :
    owed c f = owed c (Function.update f k 4) + tallyAt (cell (xN c) 3 k) () N := by
  have e := sum_turn (fun j n => if n < 4 then tallyAt (cell (xN c) 3 j) () N else (0 : CellTallies nD τ sig Unit)) f k 4
  rw [h, if_pos (by decide : (3 : ℕ) < 4), if_neg (by decide : ¬ (4 : ℕ) < 4), add_zero] at e
  unfold owed
  rw [← e, sum_same (fun j n => if n < 1 then tallyAt (cell (yN c) 1 j) () N else 0) f k 4 (if_congr (by rw [h]; decide) rfl rfl)]
  exact (add_assoc _ _ _).symm

theorem owed_zero (c : Dev nD) (f : Fin 8 → ℕ) (h : ∀ j, 4 ≤ f j) : owed c f = 0 := by
  unfold owed
  rw [Finset.sum_eq_zero (fun j _ => if_neg (by have := h j; omega)), Finset.sum_eq_zero (fun j _ => if_neg (by have := h j; omega)), add_zero]

/-- A wait at a cell of level at most `b` while owing only cells above it. -/
theorem mayWait (c : Dev nD) (f : Fin 8 → ℕ) (q : SemLoc sig) (b : ℕ) (hq : lv ((c : Thread nD τ), q) () ≤ b)
    (hb : (b < 2 ∨ ∀ j, 1 ≤ f j) ∧ (b < 3 ∨ ∀ j, 4 ≤ f j)) :
    (levAts L lv : sProp 𝕄) ⊢ MayWait (c : Thread nD τ) q () (owed c f) :=
  MayOwe.of_cut (L := L) (lev := lv) b (fun p hp => by rw [Finset.mem_singleton.mp hp, L_tc]; exact Finset.mem_singleton_self _)
    (fun g u hg => by
      rcases owed_pos c f g u hg with ⟨j, -, rfl⟩ | ⟨j, -, rfl⟩ <;> (rw [L_tc]; exact Finset.mem_singleton_self _))
    (fun p hp => by rw [Finset.mem_singleton.mp hp]; exact hq)
    (fun g u hg => by
      rcases owed_pos c f g u hg with ⟨j, hj, rfl⟩ | ⟨j, hj, rfl⟩
      · rw [lv_cell]; rcases hb.1 with h | h
        · exact h
        · exact absurd (h j) (by omega)
      · rw [lv_cell]; rcases hb.2 with h | h
        · exact h
        · exact absurd (h j) (by omega))

end Cert.KernelIdeal.Talk

end
-- ==== Proof.Ideal.Steps.lean ====
/- One rule per kind of operation the body makes, over an invariant that says how far each chunk has come. -/
module

public import proofs.«01_k».proof.Proof.Ideal.Common

@[expose] public section

noncomputable section

namespace Cert.KernelIdeal.Talk

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg BodyObligation cellOf)
open Cert.KernelIdeal Cert.KernelIdeal.Gen

variable {F : FTy → Type} [FloatOps F]

local notation "𝕄" => MT nD τ sig Unit (Elt F) ℕ UU ℕ

abbrev 𝒱₀ : Variants := Variants.none

/-! ## The cells -/

theorem barCell_inj : Function.Injective barCell := fun a b h => congrArg (fun g : GSem nD τ sig => g.1.1) h
theorem cell_inj : Function.Injective fun p : Dev nD × Fin 4 × Fin 8 => cell p.1 p.2.1 p.2.2 := fun p q h => by
  have h1 : p.1 = q.1 := congrArg (fun g : GSem nD τ sig => g.1.1) h
  have h2 : sm p.2.1 p.2.2 = sm q.2.1 q.2.2 := by
    have := congrArg (fun g : GSem nD τ sig => g.2) h
    simpa only [SemLoc.dma.injEq] using this
  have h3 := congrArg aOf h2; have h4 := congrArg kOf h2
  rw [aOf_sm, aOf_sm] at h3; rw [kOf_sm, kOf_sm] at h4
  exact Prod.ext h1 (Prod.ext h3 h4)

def bars : Finset (GSem nD τ sig) := Finset.univ.map ⟨barCell, barCell_inj⟩
def cells : Finset (GSem nD τ sig) := Finset.univ.map ⟨fun p : Dev nD × Fin 4 × Fin 8 => cell p.1 p.2.1 p.2.2, cell_inj⟩

theorem bar_mem (c : Dev nD) : barCell c ∈ bars ∪ cells :=
  Finset.mem_union_left _ (Finset.mem_map.mpr ⟨c, Finset.mem_univ _, rfl⟩)
theorem cell_mem (c : Dev nD) (a : Fin 4) (k : Fin 8) : cell c a k ∈ bars ∪ cells :=
  Finset.mem_union_right _ (Finset.mem_map.mpr ⟨(c, a, k), Finset.mem_univ _, rfl⟩)

variable (s : Start F) (K : GSem nD τ sig → ℕ) (c : Dev nD)

/-- Every cell's invariant. -/
def invs : sProp 𝕄 := bigSep (bars ∪ cells) fun g => cellInv ER (Rd s) (K g) g
instance invs_persistent : BI.Persistent (invs s K) := by unfold invs; exact bigSep_persistent _ _
theorem inv_bar (p : Dev nD) : invs s K ⊢ cellInv ER (Rd s) (K (barCell p)) (barCell p) := bigSep_elim (bar_mem p)
theorem inv_cell (p : Dev nD) (a : Fin 4) (k : Fin 8) : invs s K ⊢ cellInv ER (Rd s) (K (cell p a k)) (cell p a k) := bigSep_elim (cell_mem p a k)

/-! ## How far a chunk has come -/

section Stage

variable (k : Fin 8)

/-- A wait to come: its credit and the position at round 0. -/
def wt (a : Fin 4) : sProp 𝕄 := iprop(cred (tallyAt (cell c a k) () N) ∗ atPos ER (cell c a k) 0 ∅ 0)
/-- A wait made: the chunk, at what it should read as, and the position past round 0. -/
def got (a : Fin 4) : sProp 𝕄 := iprop(pts a c k (cont s c a k) ∗ atPos ER (cell c a k) 1 ∅ 0)
/-- What a transfer of chunk `k` of buffer `a` into device `p`'s buffer `d` needs beside the chunk. -/
def snd (a d : Fin 4) (p : Dev nD) : sProp 𝕄 :=
  iprop(ptsAny d p k ∗ reached ER (cell p d k) 0 ∗ dutyTok ER (cell p d k) 0 false
    ∗ dutyTok ER (cell c a k) 0 false ∗ reached ER (cell c a k) 0 ∗ atPos ER (cell c a k) 0 ∅ 0)
def full (a : Fin 4) : sProp 𝕄 := pts a c k (cont s c a k)
def ownDone : sProp 𝕄 := outP c (ownQ c k) (nrm s c (sumv s c k))
def othDone : sProp 𝕄 := outP c (othQ c k) (nrm s c (sumv s (xN c) k))

def stage : ℕ → sProp 𝕄
  | 0 => iprop(full s c k 0 ∗ snd c k 0 1 (yN c) ∗ wt c k 1 ∗ ptsAny 2 c k ∗ snd c k 2 3 (xN c) ∗ wt c k 3 ∗ outAny c (ownQ c k) ∗ outAny c (othQ c k))
  | 1 => iprop(wt c k 0 ∗ wt c k 1 ∗ ptsAny 2 c k ∗ snd c k 2 3 (xN c) ∗ wt c k 3 ∗ outAny c (ownQ c k) ∗ outAny c (othQ c k))
  | 2 => iprop(wt c k 0 ∗ got s c k 1 ∗ ptsAny 2 c k ∗ snd c k 2 3 (xN c) ∗ wt c k 3 ∗ outAny c (ownQ c k) ∗ outAny c (othQ c k))
  | 3 => iprop(wt c k 0 ∗ got s c k 1 ∗ full s c k 2 ∗ snd c k 2 3 (xN c) ∗ wt c k 3 ∗ outAny c (ownQ c k) ∗ outAny c (othQ c k))
  | 4 => iprop(wt c k 0 ∗ got s c k 1 ∗ wt c k 2 ∗ wt c k 3 ∗ outAny c (ownQ c k) ∗ outAny c (othQ c k))
  | 5 => iprop(wt c k 0 ∗ got s c k 1 ∗ wt c k 2 ∗ wt c k 3 ∗ ownDone s c k ∗ outAny c (othQ c k))
  | 6 => iprop(wt c k 0 ∗ got s c k 1 ∗ wt c k 2 ∗ got s c k 3 ∗ ownDone s c k ∗ outAny c (othQ c k))
  | 7 => iprop(wt c k 0 ∗ got s c k 1 ∗ wt c k 2 ∗ got s c k 3 ∗ ownDone s c k ∗ othDone s c k)
  | 8 => iprop(got s c k 0 ∗ got s c k 1 ∗ wt c k 2 ∗ got s c k 3 ∗ ownDone s c k ∗ othDone s c k)
  | _ => iprop(got s c k 0 ∗ got s c k 1 ∗ got s c k 2 ∗ got s c k 3 ∗ ownDone s c k ∗ othDone s c k)

end Stage

/-- The whole of device `c`'s state while it works: every chunk at its stage, the debts that go with the stages, the rows it keeps, the scale. -/
def Inv (f : Fin 8 → ℕ) : sProp 𝕄 :=
  iprop((bigSep Finset.univ fun k => stage s c k (f k)) ∗ (∃ W, owes (c : Thread nD τ) (owed c f) W) ∗ plPts s c ∗ gPts s c ∗ invs s K ∗ levAts L lv)

/-- Chunk `k` comes out at its stage, the rest waits for it at another. -/
theorem turn {f f' : Fin 8 → ℕ} (k : Fin 8) (i j : ℕ) (hi : f k = i) (hf : f' = Function.update f k j) :
    Inv s K c f ⊢ iprop(stage s c k i ∗ (∃ W, owes (c : Thread nD τ) (owed c f) W) ∗ plPts s c ∗ gPts s c ∗ invs s K ∗ levAts L lv
      ∗ ((stage s c k j ∗ (∃ W, owes (c : Thread nD τ) (owed c f') W) ∗ plPts s c ∗ gPts s c) -∗ Inv s K c f')) := by
  subst hi hf
  unfold Inv
  iintro ⟨Hs, HO, Hp, Hg, #HI, #HL⟩
  ihave Ht := (bigSep_univ_turn (fun k n => stage s c k n) f k) $$ Hs
  icases Ht with ⟨Hk, Hb⟩
  isplitl [Hk]; · iexact Hk
  isplitl [HO]; · iexact HO
  isplitl [Hp]; · iexact Hp
  isplitl [Hg]; · iexact Hg
  isplitr; · iexact HI
  isplitr; · iexact HL
  iintro ⟨Hk, HO, Hp, Hg⟩
  isplitl [Hb Hk]; · iapply Hb; iexact Hk
  isplitl [HO]; · iexact HO
  isplitl [Hp]; · iexact Hp
  isplitl [Hg]; · iexact Hg
  isplitr; · iexact HI
  iexact HL

abbrev run {α : Type} (p : Prog (TpuEff nD τ sig (Elt F) Λ₀ .tc) α) (Q : α → sProp 𝕄) : sProp 𝕄 :=
  wp frame (wpE (defs₀ (F := F)) 𝒱₀ (c : Thread nD τ) none) Set.univ p Q

theorem step_ret {α : Type} {r : α} {P : sProp 𝕄} {Q : α → sProp 𝕄} (h : P ⊢ Q r) : P ⊢ run c (pure r) Q := by
  show P ⊢ wp frame (wpE (defs₀ (F := F)) 𝒱₀ (c : Thread nD τ) none) Set.univ (.ret r) Q
  rw [wp_ret]
  exact h.trans (by iintro H; imodintro; iexact H)

/-! ## Waits -/

theorem step_wait {α : Type} {f f' : Fin 8 → ℕ} (a : Fin 4) (k : Fin 8) (i j : ℕ) (hi : f k = i) (hf : f' = Function.update f k j)
    (hst : stage s c k i ⊢ iprop(wt c k a ∗ (got s c k a -∗ stage s c k j)))
    (ho : owed c f' = owed c f) (hm : (levAts L lv : sProp 𝕄) ⊢ MayWait (c : Thread nD τ) (.dma (sm a k)) () (owed c f))
    {sem : DmaSem sig} {src dst : Memref sig .tc .vmem S64x1024 .bf16} {h1 : src.view.WordExact} {h2 : dst.view.WordExact}
    (hsem : sem = sm a k) (hd : dst.view.dmaCredit = N)
    {Kt : PUnit → Prog (TpuEff nD τ sig (Elt F) Λ₀ .tc) α} {Q : α → sProp 𝕄}
    (h : Inv s K c f' ⊢ run c (Kt ⟨⟩) Q) :
    Inv s K c f ⊢ run c (Prog.lift (.waitDma2 sem src dst h1 h2) >>= Kt) Q := by
  subst hsem
  show Inv s K c f ⊢ wp frame (wpE (defs₀ (F := F)) 𝒱₀ (c : Thread nD τ) none) Set.univ (.op (.waitDma2 (sm a k) src dst h1 h2) Kt) Q
  iintro H
  ihave H' := (turn s K c k i j hi hf) $$ H
  icases H' with ⟨Hk, ⟨%W, HO⟩, Hp, Hg, #HI, #HL, Hb⟩
  ihave Hk' := hst $$ Hk
  unfold wt
  icases Hk' with ⟨⟨HC, HA⟩, Hk⟩
  iapply (Rounds.wp_wait_rest_token 𝒱₀ ER (Rd s) (c : Thread nD τ) none (κ := K (cell c a k))
      (wpE_waitDma2_eq 𝒱₀ (c : Thread nD τ) none Set.univ) (Set.mem_univ _) () (O := owed c f) (W := W) (R := 0) (m := 0) (T := ∅)
      ((Nat.zero_add _).trans (hd.trans (expect_cell s c a k).symm))) $$ [HC HO HA]
  · isplitr; · iapply (inv_cell s K c a k); iexact HI
    isplitl [HC]; · rw [hd]; iexact HC
    isplitl [HO]; · iexact HO
    isplitr; · iapply hm; iexact HL
    iexact HA
  iintro ⟨HO, HA, -, Hpay⟩
  ihave Hpts := (Entails.of_eq (rest_cell s c a k)) $$ Hpay
  iapply h
  iapply Hb
  isplitl [Hk HA Hpts]
  · iapply Hk; unfold got; isplitl [Hpts]; · iexact Hpts
    iexact HA
  isplitl [HO]; · iexists _; rw [ho]; iexact HO
  isplitl [Hp]; · iexact Hp
  iexact Hg

/-! ## Transfers -/

theorem step_send {α : Type} {f f' : Fin 8 → ℕ} (a d : Fin 4) (p : Dev nD) (k : Fin 8) (i j : ℕ) (hi : f k = i) (hf : f' = Function.update f k j)
    (hst : stage s c k i ⊢ iprop(full s c k a ∗ snd c k a d p ∗ (wt c k a -∗ stage s c k j)))
    (hv : cont s p d k = cont s c a k)
    (ho : owed c f = owed c f' + tallyAt (cell p d k) () N)
    {p' : Dev nD} {ss sd : DmaSem sig} {src dst : Memref sig .tc .vmem S64x1024 .bf16} {h0 : dst.view.ref.isScScratch = false}
    {h1 : src.view.WordExact} {h2 : dst.view.WordExact}
    {h3 : DmaTarget.Typed .vmem (.dma sd) (.remote (Dev.tc p' : Thread nD τ) dst (.dma ss) h0)}
    (hp : p' = p) (hss : ss = sm a k) (hsd : sd = sm d k) (hsrc : src = ch a k) (hdst : dst = ch d k)
    {Kt : PUnit → Prog (TpuEff nD τ sig (Elt F) Λ₀ .tc) α} {Q : α → sProp 𝕄}
    (h : Inv s K c f' ⊢ run c (Kt ⟨⟩) Q) :
    Inv s K c f ⊢ run c (Prog.lift (.enqueueDma src (.remote (Dev.tc p') dst (.dma ss) h0) (.dma sd) h1 h2 h3) >>= Kt) Q := by
  subst hp hss hsd hsrc hdst
  show Inv s K c f ⊢ wp frame (wpE (defs₀ (F := F)) 𝒱₀ (c : Thread nD τ) none) Set.univ
    (.op (.enqueueDma (ch a k) (.remote (Dev.tc p') (ch d k) (.dma (sm a k)) h0) (.dma (sm d k)) h1 h2 h3) Kt) Q
  iintro H
  ihave H' := (turn s K c k i j hi hf) $$ H
  icases H' with ⟨Hk, ⟨%W, HO⟩, Hp, Hg, #HI, #HL, Hb⟩
  ihave Hk' := hst $$ Hk
  unfold full snd ptsAny
  icases Hk' with ⟨Hsrc, ⟨⟨%v, Hdst⟩, #HrD, HtD, HtS, #HrS, HA⟩, Hk⟩
  unfold pts
  icases Hsrc with ⟨%fs, %hfs, Hsrc⟩
  icases Hdst with ⟨%fd, -, Hdst⟩
  iapply (Rounds.wp_send_pointsTo 𝒱₀ ER (Rd s) (c : Thread nD τ) none (c' := (p' : Thread nD τ)) (src := ch a k) (dst := ch d k)
      (sS := .dma (sm a k)) (sem := .dma (sm d k)) (q := fullShare) (fs := fs) (κ₁ := K (cell c a k)) (κ₂ := K (cell p' d k))
      (r₁ := 0) (r₂ := 0) (d₁ := false) (d₂ := false) (fd := fd)
      (by rw [duties_cell]; exact Finset.mem_singleton_self _) (by rw [duties_cell]; exact Finset.mem_singleton_self _)
      () () N (credit_eq d k) (amount_cell s c a k false) (amount_cell s p' d k false) (owed c f') ho (W := W)
      (by
        rw [payload_cell]; unfold pts
        iintro H; iexists fs; isplitr; · ipureintro; exact hfs
        iexact H)
      (by
        rw [payload_cell]; unfold pts
        iintro H; iexists _; isplitr
        · ipureintro; exact (View.read_write_univ fd _).trans (hfs.trans hv.symm)
        iexact H)) $$ [Hsrc Hdst HO HtS HtD]
  · isplitr; · iapply (inv_cell s K c a k); iexact HI
    isplitr; · iapply (inv_cell s K p' d k); iexact HI
    isplitl [Hsrc]; · iexact Hsrc
    isplitl [Hdst]; · iexact Hdst
    isplitl [HO]; · iexact HO
    isplitl [HtS]; · iexact HtS
    isplitr; · iexact HrS
    isplitl [HtD]; · iexact HtD
    iexact HrD
  iintro ⟨HC, HO⟩
  iapply h
  iapply Hb
  isplitl [Hk HC HA]
  · iapply Hk; unfold wt; isplitl [HC]; · iexact HC
    iexact HA
  isplitl [HO]; · iexists _; iexact HO
  isplitl [Hp]; · iexact Hp
  iexact Hg

/-! ## Loads -/

/-- A load of a chunk the stage holds: it reads as the stage says. -/
theorem step_load {α : Type} {f : Fin 8 → ℕ} (a : Fin 4) (k : Fin 8) (i : ℕ) (hi : f k = i)
    (hst : stage s c k i ⊢ iprop(got s c k a ∗ (got s c k a -∗ stage s c k i)))
    {m : Memref sig .tc .vmem S512x1024 .bf16} {off : Fin 2 → ℕ} {inb : ∀ b, off b + S64x1024.size b ≤ S512x1024.size b}
    {hl : m.view.LoadsAt (Rect.unit (s := S512x1024) off S64x1024.size inb).toLoadRect}
    (hm : m = M a) (ho : off = ![64 * k.val, 0])
    {Kt : Chunk (F := F) → Prog (TpuEff nD τ sig (Elt F) Λ₀ .tc) α} {Q : α → sProp 𝕄}
    (h : Inv s K c f ⊢ run c (Kt (cont s c a k)) Q) :
    Inv s K c f ⊢ run c (Prog.lift (.load m (Rect.unit (s := S512x1024) off S64x1024.size inb).toLoadRect hl) >>= Kt) Q := by
  subst hm ho
  show Inv s K c f ⊢ wp frame (wpE (defs₀ (F := F)) 𝒱₀ (c : Thread nD τ) none) Set.univ (.op (.load (M a) (chR k).toLoadRect hl) Kt) Q
  iintro H
  ihave H' := (turn s K c k i i hi (f' := f) (by rw [← hi, Function.update_eq_self])) $$ H
  icases H' with ⟨Hk, HO, Hp, Hg, -, -, Hb⟩
  ihave Hk' := hst $$ Hk
  unfold got pts
  icases Hk' with ⟨⟨⟨%fs, %hfs, Hs⟩, HA⟩, Hk⟩
  iapply (wp_load_rect 𝒱₀ (c : Thread nD τ) none Set.univ (m := M a) (r := chR k) (hl := hl) (k := Kt)
    (S := (ch a k).view.set) (q := fullShare) (f := fs) (Finset.Subset.refl _)) $$ Hs
  iintro Hs
  rw [show ((M a).access (chR k)).read (Elt F) fs = cont s c a k from hfs]
  iapply h
  iapply Hb
  isplitl [Hk Hs HA]
  · iapply Hk; isplitl [Hs]
    · iexists fs; isplitr; · ipureintro; exact hfs
      iexact Hs
    iexact HA
  isplitl [HO]; · iexact HO
  isplitl [Hp]; · iexact Hp
  iexact Hg

/-- A load of a chunk at contents not chosen. -/
theorem step_load_any {α : Type} {f : Fin 8 → ℕ} (a : Fin 4) (k : Fin 8) (i : ℕ) (hi : f k = i)
    (hst : stage s c k i ⊢ iprop(ptsAny a c k ∗ (ptsAny a c k -∗ stage s c k i)))
    {m : Memref sig .tc .vmem S512x1024 .bf16} {off : Fin 2 → ℕ} {inb : ∀ b, off b + S64x1024.size b ≤ S512x1024.size b}
    {hl : m.view.LoadsAt (Rect.unit (s := S512x1024) off S64x1024.size inb).toLoadRect}
    (hm : m = M a) (ho : off = ![64 * k.val, 0])
    {Kt : Chunk (F := F) → Prog (TpuEff nD τ sig (Elt F) Λ₀ .tc) α} {Q : α → sProp 𝕄}
    (h : ∀ w, Inv s K c f ⊢ run c (Kt w) Q) :
    Inv s K c f ⊢ run c (Prog.lift (.load m (Rect.unit (s := S512x1024) off S64x1024.size inb).toLoadRect hl) >>= Kt) Q := by
  subst hm ho
  show Inv s K c f ⊢ wp frame (wpE (defs₀ (F := F)) 𝒱₀ (c : Thread nD τ) none) Set.univ (.op (.load (M a) (chR k).toLoadRect hl) Kt) Q
  iintro H
  ihave H' := (turn s K c k i i hi (f' := f) (by rw [← hi, Function.update_eq_self])) $$ H
  icases H' with ⟨Hk, HO, Hp, Hg, -, -, Hb⟩
  ihave Hk' := hst $$ Hk
  unfold ptsAny pts
  icases Hk' with ⟨⟨%v, %fs, %hfs, Hs⟩, Hk⟩
  iapply (wp_load_rect 𝒱₀ (c : Thread nD τ) none Set.univ (m := M a) (r := chR k) (hl := hl) (k := Kt)
    (S := (ch a k).view.set) (q := fullShare) (f := fs) (Finset.Subset.refl _)) $$ Hs
  iintro Hs
  iapply (h _)
  iapply Hb
  isplitl [Hk Hs]
  · iapply Hk; iexists v; iexists fs; isplitr; · ipureintro; exact hfs
    iexact Hs
  isplitl [HO]; · iexact HO
  isplitl [Hp]; · iexact Hp
  iexact Hg

/-- A load of a chunk of the rows the device keeps. -/
theorem step_load_pl {α : Type} {f : Fin 8 → ℕ} (k : Fin 8)
    {m : Memref sig .tc .vmem S512x1024 .bf16} {off : Fin 2 → ℕ} {inb : ∀ b, off b + S64x1024.size b ≤ S512x1024.size b}
    {hl : m.view.LoadsAt (Rect.unit (s := S512x1024) off S64x1024.size inb).toLoadRect}
    (hm : m = plM) (ho : off = ![64 * k.val, 0])
    {Kt : Chunk (F := F) → Prog (TpuEff nD τ sig (Elt F) Λ₀ .tc) α} {Q : α → sProp 𝕄}
    (h : Inv s K c f ⊢ run c (Kt (rdc (s.pl c) k)) Q) :
    Inv s K c f ⊢ run c (Prog.lift (.load m (Rect.unit (s := S512x1024) off S64x1024.size inb).toLoadRect hl) >>= Kt) Q := by
  subst hm ho
  show Inv s K c f ⊢ wp frame (wpE (defs₀ (F := F)) 𝒱₀ (c : Thread nD τ) none) Set.univ (.op (.load plM (chR k).toLoadRect hl) Kt) Q
  iintro H
  ihave H' := (Entails.of_eq (show Inv s K c f = _ from rfl)) $$ H
  unfold Inv plPts
  icases H' with ⟨Hs, HO, Hp, Hg, #HI, #HL⟩
  iapply (wp_load_rect 𝒱₀ (c : Thread nD τ) none Set.univ (m := plM) (r := chR k) (hl := hl) (k := Kt)
    (S := Finset.univ) (q := fullShare) (f := s.pl c) (Finset.subset_univ _)) $$ Hp
  iintro Hp
  rw [show (plM.access (chR k)).read (Elt F) (s.pl c) = rdc (s.pl c) k from rfl]
  iapply h
  unfold Inv plPts
  isplitl [Hs]; · iexact Hs
  isplitl [HO]; · iexact HO
  isplitl [Hp]; · iexact Hp
  isplitl [Hg]; · iexact Hg
  isplitr; · iexact HI
  iexact HL

/-- The load of the scale. -/
theorem step_load_g {α : Type} {f : Fin 8 → ℕ}
    {m : Memref sig .tc .vmem S1x1024 .bf16} {off : Fin 2 → ℕ} {inb : ∀ b, off b + S1x1024.size b ≤ S1x1024.size b}
    {hl : m.view.LoadsAt (Rect.unit (s := S1x1024) off S1x1024.size inb).toLoadRect}
    (hm : m = gM) (ho : off = ![0, 0])
    {Kt : Gam (F := F) → Prog (TpuEff nD τ sig (Elt F) Λ₀ .tc) α} {Q : α → sProp 𝕄}
    (h : Inv s K c f ⊢ run c (Kt (s.g c)) Q) :
    Inv s K c f ⊢ run c (Prog.lift (.load m (Rect.unit (s := S1x1024) off S1x1024.size inb).toLoadRect hl) >>= Kt) Q := by
  subst hm ho
  show Inv s K c f ⊢ wp frame (wpE (defs₀ (F := F)) 𝒱₀ (c : Thread nD τ) none) Set.univ
    (.op (.load gM (Rect.unit (s := S1x1024) ![0, 0] S1x1024.size inb).toLoadRect hl) Kt) Q
  iintro H
  ihave H' := (Entails.of_eq (show Inv s K c f = _ from rfl)) $$ H
  unfold Inv gPts
  icases H' with ⟨Hs, HO, Hp, Hg, #HI, #HL⟩
  iapply (wp_load_rect 𝒱₀ (c : Thread nD τ) none Set.univ (m := gM) (r := Rect.unit (s := S1x1024) ![0, 0] S1x1024.size inb) (hl := hl) (k := Kt)
    (S := Finset.univ) (q := fullShare) (f := s.g c) (Finset.subset_univ _)) $$ Hg
  iintro Hg
  rw [show (gM.access (Rect.unit (s := S1x1024) ![0, 0] S1x1024.size inb)).read (Elt F) (s.g c) = s.g c from
    Memref.read_access_unit_zero (Elt F) cc0_stg2_0 (by decide) inb (s.g c)]
  iapply h
  unfold Inv gPts
  isplitl [Hs]; · iexact Hs
  isplitl [HO]; · iexact HO
  isplitl [Hp]; · iexact Hp
  isplitl [Hg]; · iexact Hg
  isplitr; · iexact HI
  iexact HL

/-- A load of a row block of the result, at contents not chosen. -/
theorem step_load_out {α : Type} {f : Fin 8 → ℕ} (q : Fin 16) (k : Fin 8) (i : ℕ) (hi : f k = i)
    (hst : stage s c k i ⊢ iprop(outAny c q ∗ (outAny c q -∗ stage s c k i)))
    {m : Memref sig .tc .vmem S1024x1024 .f32} {off : Fin 2 → ℕ} {inb : ∀ b, off b + S64x1024.size b ≤ S1024x1024.size b}
    {hl : m.view.LoadsAt (Rect.unit (s := S1024x1024) off S64x1024.size inb).toLoadRect}
    (hm : m = outM) (ho : off = ![64 * q.val, 0])
    {Kt : Vec F S64x1024 .f32 → Prog (TpuEff nD τ sig (Elt F) Λ₀ .tc) α} {Q : α → sProp 𝕄}
    (h : ∀ w, Inv s K c f ⊢ run c (Kt w) Q) :
    Inv s K c f ⊢ run c (Prog.lift (.load m (Rect.unit (s := S1024x1024) off S64x1024.size inb).toLoadRect hl) >>= Kt) Q := by
  subst hm ho
  show Inv s K c f ⊢ wp frame (wpE (defs₀ (F := F)) 𝒱₀ (c : Thread nD τ) none) Set.univ (.op (.load outM (outR q).toLoadRect hl) Kt) Q
  iintro H
  ihave H' := (turn s K c k i i hi (f' := f) (by rw [← hi, Function.update_eq_self])) $$ H
  icases H' with ⟨Hk, HO, Hp, Hg, -, -, Hb⟩
  ihave Hk' := hst $$ Hk
  unfold outAny outP
  icases Hk' with ⟨⟨%v, %fs, %hfs, Hs⟩, Hk⟩
  iapply (wp_load_rect 𝒱₀ (c : Thread nD τ) none Set.univ (m := outM) (r := outR q) (hl := hl) (k := Kt)
    (S := (outV q).set) (q := fullShare) (f := fs) (Finset.Subset.refl _)) $$ Hs
  iintro Hs
  iapply (h _)
  iapply Hb
  isplitl [Hk Hs]
  · iapply Hk; iexists v; iexists fs; isplitr; · ipureintro; exact hfs
    iexact Hs
  isplitl [HO]; · iexact HO
  isplitl [Hp]; · iexact Hp
  iexact Hg

/-! ## Stores -/

/-- A store of a chunk. -/
theorem step_store {α : Type} {f f' : Fin 8 → ℕ} (a : Fin 4) (k : Fin 8) (i j : ℕ) (hi : f k = i) (hf : f' = Function.update f k j)
    (hst : stage s c k i ⊢ iprop(ptsAny a c k ∗ (full s c k a -∗ stage s c k j)))
    (ho : owed c f' = owed c f)
    {m : Memref sig .tc .vmem S512x1024 .bf16} {off : Fin 2 → ℕ} {inb : ∀ b, off b + S64x1024.size b ≤ S512x1024.size b}
    {w : Chunk (F := F)} {hx : (m.access (Rect.unit (s := S512x1024) off S64x1024.size inb)).Stores Finset.univ} {hmk}
    (hm : m = M a) (hoff : off = ![64 * k.val, 0]) (hw : w = cont s c a k)
    {Kt : PUnit → Prog (TpuEff nD τ sig (Elt F) Λ₀ .tc) α} {Q : α → sProp 𝕄}
    (h : Inv s K c f' ⊢ run c (Kt ⟨⟩) Q) :
    Inv s K c f ⊢ run c (Prog.lift (.store m (Rect.unit (s := S512x1024) off S64x1024.size inb) w Finset.univ hx hmk) >>= Kt) Q := by
  subst hm hoff hw
  show Inv s K c f ⊢ wp frame (wpE (defs₀ (F := F)) 𝒱₀ (c : Thread nD τ) none) Set.univ (.op (.store (M a) (chR k) (cont s c a k) Finset.univ hx hmk) Kt) Q
  iintro H
  ihave H' := (turn s K c k i j hi hf) $$ H
  icases H' with ⟨Hk, ⟨%W, HO⟩, Hp, Hg, -, -, Hb⟩
  ihave Hk' := hst $$ Hk
  unfold ptsAny full pts
  icases Hk' with ⟨⟨%v, %fs, -, Hs⟩, Hk⟩
  iapply (wp_store 𝒱₀ (c : Thread nD τ) none Set.univ (m := M a) (r := chR k) (w := cont s c a k) (Mk := Finset.univ) (hx := hx) (hm := hmk) (k := Kt)
    (S := (ch a k).view.set) (f := fs) (Finset.Subset.refl _)) $$ Hs
  iintro Hs
  iapply h
  iapply Hb
  isplitl [Hk Hs]
  · iapply Hk; iexists _; isplitr
    · ipureintro; exact View.read_write_univ (v := (M a).access (chR k)) fs _
    iexact Hs
  isplitl [HO]; · iexists _; rw [ho]; iexact HO
  isplitl [Hp]; · iexact Hp
  iexact Hg

/-- A store of a row block of the result. -/
theorem step_store_out {α : Type} {f f' : Fin 8 → ℕ} (q : Fin 16) (v : Vec F S64x1024 .f32) (k : Fin 8) (i j : ℕ) (hi : f k = i) (hf : f' = Function.update f k j)
    (hst : stage s c k i ⊢ iprop(outAny c q ∗ (outP c q v -∗ stage s c k j)))
    (ho : owed c f' = owed c f)
    {m : Memref sig .tc .vmem S1024x1024 .f32} {off : Fin 2 → ℕ} {inb : ∀ b, off b + S64x1024.size b ≤ S1024x1024.size b}
    {w : Vec F S64x1024 .f32} {hx : (m.access (Rect.unit (s := S1024x1024) off S64x1024.size inb)).Stores Finset.univ} {hmk}
    (hm : m = outM) (hoff : off = ![64 * q.val, 0]) (hw : w = v)
    {Kt : PUnit → Prog (TpuEff nD τ sig (Elt F) Λ₀ .tc) α} {Q : α → sProp 𝕄}
    (h : Inv s K c f' ⊢ run c (Kt ⟨⟩) Q) :
    Inv s K c f ⊢ run c (Prog.lift (.store m (Rect.unit (s := S1024x1024) off S64x1024.size inb) w Finset.univ hx hmk) >>= Kt) Q := by
  subst hm hoff hw
  show Inv s K c f ⊢ wp frame (wpE (defs₀ (F := F)) 𝒱₀ (c : Thread nD τ) none) Set.univ (.op (.store outM (outR q) w Finset.univ hx hmk) Kt) Q
  iintro H
  ihave H' := (turn s K c k i j hi hf) $$ H
  icases H' with ⟨Hk, ⟨%W, HO⟩, Hp, Hg, -, -, Hb⟩
  ihave Hk' := hst $$ Hk
  unfold outAny outP
  icases Hk' with ⟨⟨%v, %fs, -, Hs⟩, Hk⟩
  iapply (wp_store 𝒱₀ (c : Thread nD τ) none Set.univ (m := outM) (r := outR q) (w := w) (Mk := Finset.univ) (hx := hx) (hm := hmk) (k := Kt)
    (S := (outV q).set) (f := fs) (Finset.Subset.refl _)) $$ Hs
  iintro Hs
  iapply h
  iapply Hb
  isplitl [Hk Hs]
  · iapply Hk; iexists _; isplitr
    · ipureintro; exact View.read_write_univ (v := outM.access (outR q)) fs _
    iexact Hs
  isplitl [HO]; · iexists _; rw [ho]; iexact HO
  isplitl [Hp]; · iexact Hp
  iexact Hg

end Cert.KernelIdeal.Talk

end
-- ==== Proof.Ideal.Ops.lean ====
/- The operations of the body as steps of one chunk from a stage to the next. -/
module

public import proofs.«01_k».proof.Proof.Ideal.Steps

@[expose] public section

noncomputable section

namespace Cert.KernelIdeal.Talk

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg BodyObligation cellOf)
open Cert.KernelIdeal Cert.KernelIdeal.Gen

variable {F : FTy → Type} [FloatOps F]

local notation "𝕄" => MT nD τ sig Unit (Elt F) ℕ UU ℕ

variable (s : Start F) (K : GSem nD τ sig → ℕ) (c : Dev nD)

section Ops

variable {α : Type} {f : Fin 8 → ℕ} (k : Fin 8)

/-! ## Where the row blocks lie -/

theorem off_own : k0_off1 c (BitVec.ofNat 32 (64 * k.val)) = ![64 * (ownQ c k).val, 0] := by
  rw [k0_off1_eq c k]
  exact congrArg (fun n : ℕ => (![n, 0] : Fin 2 → ℕ)) (by show 512 * (c.val / 2) + 64 * k.val = 64 * (8 * (c.val / 2) + k.val); omega)
theorem off_oth : k0_off2 c (BitVec.ofNat 32 (64 * k.val)) = ![64 * (othQ c k).val, 0] := by
  rw [k0_off2_eq c k]
  exact congrArg (fun n : ℕ => (![n, 0] : Fin 2 → ℕ)) (by
    have := c.isLt
    simp only [nD] at this
    show 64 * k.val + 512 - 512 * (c.val / 2) = 64 * (8 * (1 - c.val / 2) + k.val); omega)

variable {p' : Dev nD} {sem ss sd : DmaSem sig} {src dst : Memref sig .tc .vmem S64x1024 .bf16} {h0 : dst.view.ref.isScScratch = false}
  {h1 : src.view.WordExact} {h2 : dst.view.WordExact}

/-! ## The transfers -/

theorem y_send (hi : f k = 0) {h3 : DmaTarget.Typed .vmem (.dma sd) (.remote (Dev.tc p' : Thread nD τ) dst (.dma ss) h0)}
    (hp : p' = yN c) (hss : ss = sm 0 k) (hsd : sd = sm 1 k) (hsrc : src = ch 0 k) (hdst : dst = ch 1 k)
    {Kt : PUnit → Prog (TpuEff nD τ sig (Elt F) Λ₀ .tc) α} {Q : α → sProp 𝕄}
    (h : Inv s K c (Function.update f k 1) ⊢ run c (Kt ⟨⟩) Q) :
    Inv s K c f ⊢ run c (Prog.lift (.enqueueDma src (.remote (Dev.tc p') dst (.dma ss) h0) (.dma sd) h1 h2 h3) >>= Kt) Q := by
  refine step_send s K c 0 1 (yN c) k 0 1 hi rfl ?_
    (cont_y s c k) (owed_y c f k hi) hp hss hsd hsrc hdst h
  simp only [stage, ownDone, othDone, full]
  iintro ⟨H0, H1, H2⟩
  isplitl [H0]; · iexact H0
  isplitl [H1]; · iexact H1
  iintro H3; isplitl [H3]; · iexact H3
  iexact H2

theorem x_send (hi : f k = 3) {h3 : DmaTarget.Typed .vmem (.dma sd) (.remote (Dev.tc p' : Thread nD τ) dst (.dma ss) h0)}
    (hp : p' = xN c) (hss : ss = sm 2 k) (hsd : sd = sm 3 k) (hsrc : src = ch 2 k) (hdst : dst = ch 3 k)
    {Kt : PUnit → Prog (TpuEff nD τ sig (Elt F) Λ₀ .tc) α} {Q : α → sProp 𝕄}
    (h : Inv s K c (Function.update f k 4) ⊢ run c (Kt ⟨⟩) Q) :
    Inv s K c f ⊢ run c (Prog.lift (.enqueueDma src (.remote (Dev.tc p') dst (.dma ss) h0) (.dma sd) h1 h2 h3) >>= Kt) Q := by
  refine step_send s K c 2 3 (xN c) k 3 4 hi rfl ?_
    (cont_x s c k) (owed_x c f k hi) hp hss hsd hsrc hdst h
  simp only [stage, ownDone, othDone, full]
  iintro ⟨H0, H1, H2, H3, H4⟩
  isplitl [H2]; · iexact H2
  isplitl [H3]; · iexact H3
  iintro H5
  isplitl [H0]; · iexact H0
  isplitl [H1]; · iexact H1
  isplitl [H5]; · iexact H5
  iexact H4

/-! ## The waits -/

theorem y_wait (hi : f k = 1) (hall : ∀ j, 1 ≤ f j) (hsem : sem = sm 1 k) (hd : dst.view.dmaCredit = N)
    {Kt : PUnit → Prog (TpuEff nD τ sig (Elt F) Λ₀ .tc) α} {Q : α → sProp 𝕄}
    (h : Inv s K c (Function.update f k 2) ⊢ run c (Kt ⟨⟩) Q) :
    Inv s K c f ⊢ run c (Prog.lift (.waitDma2 sem src dst h1 h2) >>= Kt) Q := by
  refine step_wait s K c 1 k 1 2 hi rfl ?_
    (owed_same c f k 2 (by rw [hi]; decide) (by rw [hi]; decide))
    (mayWait c f (.dma (sm 1 k)) 2 (Nat.le_of_eq (lv_cell c 1 k)) ⟨.inr hall, .inl (by decide)⟩) hsem hd h
  simp only [stage, ownDone, othDone, full]
  iintro ⟨H0, H1, H2, H3, H4, H5, H6⟩
  isplitl [H1]; · iexact H1
  iintro H1
  isplitl [H0]; · iexact H0
  isplitl [H1]; · iexact H1
  isplitl [H2]; · iexact H2
  isplitl [H3]; · iexact H3
  isplitl [H4]; · iexact H4
  isplitl [H5]; · iexact H5
  iexact H6

theorem x_wait (hi : f k = 5) (hall : ∀ j, 4 ≤ f j) (hsem : sem = sm 3 k) (hd : dst.view.dmaCredit = N)
    {Kt : PUnit → Prog (TpuEff nD τ sig (Elt F) Λ₀ .tc) α} {Q : α → sProp 𝕄}
    (h : Inv s K c (Function.update f k 6) ⊢ run c (Kt ⟨⟩) Q) :
    Inv s K c f ⊢ run c (Prog.lift (.waitDma2 sem src dst h1 h2) >>= Kt) Q := by
  refine step_wait s K c 3 k 5 6 hi rfl ?_
    (owed_same c f k 6 (by rw [hi]; decide) (by rw [hi]; decide))
    (mayWait c f (.dma (sm 3 k)) 3 (Nat.le_of_eq (lv_cell c 3 k)) ⟨.inr fun j => Nat.le_trans (by decide) (hall j), .inr hall⟩) hsem hd h
  simp only [stage, ownDone, othDone, full]
  iintro ⟨H0, H1, H2, H3, H4, H5⟩
  isplitl [H3]; · iexact H3
  iintro H3
  isplitl [H0]; · iexact H0
  isplitl [H1]; · iexact H1
  isplitl [H2]; · iexact H2
  isplitl [H3]; · iexact H3
  isplitl [H4]; · iexact H4
  iexact H5

theorem sy_wait (hi : f k = 7) (hsem : sem = sm 0 k) (hd : dst.view.dmaCredit = N)
    {Kt : PUnit → Prog (TpuEff nD τ sig (Elt F) Λ₀ .tc) α} {Q : α → sProp 𝕄}
    (h : Inv s K c (Function.update f k 8) ⊢ run c (Kt ⟨⟩) Q) :
    Inv s K c f ⊢ run c (Prog.lift (.waitDma2 sem src dst h1 h2) >>= Kt) Q := by
  refine step_wait s K c 0 k 7 8 hi rfl ?_
    (owed_same c f k 8 (by rw [hi]; decide) (by rw [hi]; decide))
    (mayWait c f (.dma (sm 0 k)) 0 (Nat.le_of_eq (lv_cell c 0 k)) ⟨.inl (by decide), .inl (by decide)⟩) hsem hd h
  simp only [stage, ownDone, othDone, full]
  iintro ⟨H0, H1, H2, H3, H4, H5⟩
  isplitl [H0]; · iexact H0
  iintro H0
  isplitl [H0]; · iexact H0
  isplitl [H1]; · iexact H1
  isplitl [H2]; · iexact H2
  isplitl [H3]; · iexact H3
  isplitl [H4]; · iexact H4
  iexact H5

theorem sx_wait (hi : f k = 8) (hsem : sem = sm 2 k) (hd : dst.view.dmaCredit = N)
    {Kt : PUnit → Prog (TpuEff nD τ sig (Elt F) Λ₀ .tc) α} {Q : α → sProp 𝕄}
    (h : Inv s K c (Function.update f k 9) ⊢ run c (Kt ⟨⟩) Q) :
    Inv s K c f ⊢ run c (Prog.lift (.waitDma2 sem src dst h1 h2) >>= Kt) Q := by
  refine step_wait s K c 2 k 8 9 hi rfl ?_
    (owed_same c f k 9 (by rw [hi]; decide) (by rw [hi]; decide))
    (mayWait c f (.dma (sm 2 k)) 0 (Nat.le_of_eq (lv_cell c 2 k)) ⟨.inl (by decide), .inl (by decide)⟩) hsem hd h
  simp only [stage, ownDone, othDone, full]
  iintro ⟨H0, H1, H2, H3, H4, H5⟩
  isplitl [H2]; · iexact H2
  iintro H2
  isplitl [H0]; · iexact H0
  isplitl [H1]; · iexact H1
  isplitl [H2]; · iexact H2
  isplitl [H3]; · iexact H3
  isplitl [H4]; · iexact H4
  iexact H5

/-! ## Loads and stores of chunks -/

variable {m : Memref sig .tc .vmem S512x1024 .bf16} {off : Fin 2 → ℕ} {inb : ∀ b, off b + S64x1024.size b ≤ S512x1024.size b}
  {hl : m.view.LoadsAt (Rect.unit (s := S512x1024) off S64x1024.size inb).toLoadRect}

theorem ld_recv (hi : f k = 2) (hm : m = M 1) (ho : off = ![64 * k.val, 0])
    {Kt : Chunk (F := F) → Prog (TpuEff nD τ sig (Elt F) Λ₀ .tc) α} {Q : α → sProp 𝕄}
    (h : Inv s K c f ⊢ run c (Kt (rdc (s.ps (yN c)) k)) Q) :
    Inv s K c f ⊢ run c (Prog.lift (.load m (Rect.unit (s := S512x1024) off S64x1024.size inb).toLoadRect hl) >>= Kt) Q := by
  refine step_load s K c 1 k 2 hi ?_ hm ho h
  simp only [stage, ownDone, othDone, full]
  iintro ⟨H0, H1, H2, H3, H4, H5, H6⟩
  isplitl [H1]; · iexact H1
  iintro H1
  isplitl [H0]; · iexact H0
  isplitl [H1]; · iexact H1
  isplitl [H2]; · iexact H2
  isplitl [H3]; · iexact H3
  isplitl [H4]; · iexact H4
  isplitl [H5]; · iexact H5
  iexact H6

theorem ld_rx (hi : f k = 6) (hm : m = M 3) (ho : off = ![64 * k.val, 0])
    {Kt : Chunk (F := F) → Prog (TpuEff nD τ sig (Elt F) Λ₀ .tc) α} {Q : α → sProp 𝕄}
    (h : Inv s K c f ⊢ run c (Kt (sumv s (xN c) k)) Q) :
    Inv s K c f ⊢ run c (Prog.lift (.load m (Rect.unit (s := S512x1024) off S64x1024.size inb).toLoadRect hl) >>= Kt) Q := by
  refine step_load s K c 3 k 6 hi ?_ hm ho h
  simp only [stage, ownDone, othDone, full]
  iintro ⟨H0, H1, H2, H3, H4, H5⟩
  isplitl [H3]; · iexact H3
  iintro H3
  isplitl [H0]; · iexact H0
  isplitl [H1]; · iexact H1
  isplitl [H2]; · iexact H2
  isplitl [H3]; · iexact H3
  isplitl [H4]; · iexact H4
  iexact H5

theorem ld_fwd (hi : f k = 2) (hm : m = M 2) (ho : off = ![64 * k.val, 0])
    {Kt : Chunk (F := F) → Prog (TpuEff nD τ sig (Elt F) Λ₀ .tc) α} {Q : α → sProp 𝕄}
    (h : ∀ w, Inv s K c f ⊢ run c (Kt w) Q) :
    Inv s K c f ⊢ run c (Prog.lift (.load m (Rect.unit (s := S512x1024) off S64x1024.size inb).toLoadRect hl) >>= Kt) Q := by
  refine step_load_any s K c 2 k 2 hi ?_ hm ho h
  simp only [stage, ownDone, othDone, full]
  iintro ⟨H0, H1, H2, H3, H4, H5, H6⟩
  isplitl [H2]; · iexact H2
  iintro H2
  isplitl [H0]; · iexact H0
  isplitl [H1]; · iexact H1
  isplitl [H2]; · iexact H2
  isplitl [H3]; · iexact H3
  isplitl [H4]; · iexact H4
  isplitl [H5]; · iexact H5
  iexact H6

theorem st_fwd (hi : f k = 2) {w : Chunk (F := F)} {hx : (m.access (Rect.unit (s := S512x1024) off S64x1024.size inb)).Stores Finset.univ} {hmk}
    (hm : m = M 2) (ho : off = ![64 * k.val, 0]) (hw : w = sumv s c k)
    {Kt : PUnit → Prog (TpuEff nD τ sig (Elt F) Λ₀ .tc) α} {Q : α → sProp 𝕄}
    (h : Inv s K c (Function.update f k 3) ⊢ run c (Kt ⟨⟩) Q) :
    Inv s K c f ⊢ run c (Prog.lift (.store m (Rect.unit (s := S512x1024) off S64x1024.size inb) w Finset.univ hx hmk) >>= Kt) Q := by
  refine step_store s K c 2 k 2 3 hi rfl ?_
    (owed_same c f k 3 (by rw [hi]; decide) (by rw [hi]; decide)) hm ho hw h
  simp only [stage, ownDone, othDone, full]
  iintro ⟨H0, H1, H2, H3, H4, H5, H6⟩
  isplitl [H2]; · iexact H2
  iintro H2
  isplitl [H0]; · iexact H0
  isplitl [H1]; · iexact H1
  isplitl [H2]; · iexact H2
  isplitl [H3]; · iexact H3
  isplitl [H4]; · iexact H4
  isplitl [H5]; · iexact H5
  iexact H6

/-! ## Loads and stores of the result's row blocks -/

variable {mo : Memref sig .tc .vmem S1024x1024 .f32} {offo : Fin 2 → ℕ} {inbo : ∀ b, offo b + S64x1024.size b ≤ S1024x1024.size b}
  {hlo : mo.view.LoadsAt (Rect.unit (s := S1024x1024) offo S64x1024.size inbo).toLoadRect}

theorem ld_own (hi : f k = 4) (hm : mo = outM) (ho : offo = ![64 * (ownQ c k).val, 0])
    {Kt : Vec F S64x1024 .f32 → Prog (TpuEff nD τ sig (Elt F) Λ₀ .tc) α} {Q : α → sProp 𝕄}
    (h : ∀ w, Inv s K c f ⊢ run c (Kt w) Q) :
    Inv s K c f ⊢ run c (Prog.lift (.load mo (Rect.unit (s := S1024x1024) offo S64x1024.size inbo).toLoadRect hlo) >>= Kt) Q := by
  refine step_load_out s K c (ownQ c k) k 4 hi ?_ hm ho h
  simp only [stage, ownDone, othDone, full]
  iintro ⟨H0, H1, H2, H3, H4, H5⟩
  isplitl [H4]; · iexact H4
  iintro H4
  isplitl [H0]; · iexact H0
  isplitl [H1]; · iexact H1
  isplitl [H2]; · iexact H2
  isplitl [H3]; · iexact H3
  isplitl [H4]; · iexact H4
  iexact H5

theorem st_own (hi : f k = 4) {w : Vec F S64x1024 .f32} {hx : (mo.access (Rect.unit (s := S1024x1024) offo S64x1024.size inbo)).Stores Finset.univ} {hmk}
    (hm : mo = outM) (ho : offo = ![64 * (ownQ c k).val, 0]) (hw : w = nrm s c (sumv s c k))
    {Kt : PUnit → Prog (TpuEff nD τ sig (Elt F) Λ₀ .tc) α} {Q : α → sProp 𝕄}
    (h : Inv s K c (Function.update f k 5) ⊢ run c (Kt ⟨⟩) Q) :
    Inv s K c f ⊢ run c (Prog.lift (.store mo (Rect.unit (s := S1024x1024) offo S64x1024.size inbo) w Finset.univ hx hmk) >>= Kt) Q := by
  refine step_store_out s K c (ownQ c k) (nrm s c (sumv s c k)) k 4 5 hi rfl ?_
    (owed_same c f k 5 (by rw [hi]; decide) (by rw [hi]; decide)) hm ho hw h
  simp only [stage, ownDone, othDone, full]
  iintro ⟨H0, H1, H2, H3, H4, H5⟩
  isplitl [H4]; · iexact H4
  iintro H4
  isplitl [H0]; · iexact H0
  isplitl [H1]; · iexact H1
  isplitl [H2]; · iexact H2
  isplitl [H3]; · iexact H3
  isplitl [H4]; · iexact H4
  iexact H5

theorem ld_oth (hi : f k = 6) (hm : mo = outM) (ho : offo = ![64 * (othQ c k).val, 0])
    {Kt : Vec F S64x1024 .f32 → Prog (TpuEff nD τ sig (Elt F) Λ₀ .tc) α} {Q : α → sProp 𝕄}
    (h : ∀ w, Inv s K c f ⊢ run c (Kt w) Q) :
    Inv s K c f ⊢ run c (Prog.lift (.load mo (Rect.unit (s := S1024x1024) offo S64x1024.size inbo).toLoadRect hlo) >>= Kt) Q := by
  refine step_load_out s K c (othQ c k) k 6 hi ?_ hm ho h
  simp only [stage, ownDone, othDone, full]
  iintro ⟨H0, H1, H2, H3, H4, H5⟩
  isplitl [H5]; · iexact H5
  iintro H5
  isplitl [H0]; · iexact H0
  isplitl [H1]; · iexact H1
  isplitl [H2]; · iexact H2
  isplitl [H3]; · iexact H3
  isplitl [H4]; · iexact H4
  iexact H5

theorem st_oth (hi : f k = 6) {w : Vec F S64x1024 .f32} {hx : (mo.access (Rect.unit (s := S1024x1024) offo S64x1024.size inbo)).Stores Finset.univ} {hmk}
    (hm : mo = outM) (ho : offo = ![64 * (othQ c k).val, 0]) (hw : w = nrm s c (sumv s (xN c) k))
    {Kt : PUnit → Prog (TpuEff nD τ sig (Elt F) Λ₀ .tc) α} {Q : α → sProp 𝕄}
    (h : Inv s K c (Function.update f k 7) ⊢ run c (Kt ⟨⟩) Q) :
    Inv s K c f ⊢ run c (Prog.lift (.store mo (Rect.unit (s := S1024x1024) offo S64x1024.size inbo) w Finset.univ hx hmk) >>= Kt) Q := by
  refine step_store_out s K c (othQ c k) (nrm s c (sumv s (xN c) k)) k 6 7 hi rfl ?_
    (owed_same c f k 7 (by rw [hi]; decide) (by rw [hi]; decide)) hm ho hw h
  simp only [stage, ownDone, othDone, full]
  iintro ⟨H0, H1, H2, H3, H4, H5⟩
  isplitl [H5]; · iexact H5
  iintro H5
  isplitl [H0]; · iexact H0
  isplitl [H1]; · iexact H1
  isplitl [H2]; · iexact H2
  isplitl [H3]; · iexact H3
  isplitl [H4]; · iexact H4
  iexact H5

end Ops

/-- The rest of a program after its first part. -/
theorem step_bind {α β : Type} {P : sProp 𝕄} {p : Prog (TpuEff nD τ sig (Elt F) Λ₀ .tc) α} {Kt : α → Prog (TpuEff nD τ sig (Elt F) Λ₀ .tc) β}
    {Q : β → sProp 𝕄} (h : P ⊢ run c p (fun a => run c (Kt a) Q)) : P ⊢ run c (p >>= Kt) Q := by
  show P ⊢ wp frame (wpE (defs₀ (F := F)) 𝒱₀ (c : Thread nD τ) none) Set.univ (p >>= Kt) Q
  rw [wp_bind]; exact h

/-- The state at stages equal to those at hand. -/
theorem at_stages {f f' : Fin 8 → ℕ} {P : sProp 𝕄} (e : ∀ j, f j = f' j) (h : Inv s K c f' ⊢ P) : Inv s K c f ⊢ P := by
  rw [funext e]; exact h

end Cert.KernelIdeal.Talk

end
-- ==== Proof.Ideal.Parts.lean ====
/- The printed parts of the body, each from the stages it starts at to the stages it leaves. -/
module

public import proofs.«01_k».proof.Proof.Ideal.Ops

@[expose] public section

noncomputable section

namespace Cert.KernelIdeal.Talk

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg BodyObligation cellOf)
open Cert.KernelIdeal Cert.KernelIdeal.Gen

variable {F : FTy → Type} [FloatOps F]

local notation "𝕄" => MT nD τ sig Unit (Elt F) ℕ UU ℕ

variable (s : Start F) (K : GSem nD τ sig → ℕ) (c : Dev nD)

/-- A part of the body at the region's buffers and semaphores. -/
abbrev atB {β : Type 1} (p : (a0 : Memref sig .tc .vmem S512x1024 .bf16) → a0.IsWhole → (a1 : Memref sig .tc .vmem S512x1024 .bf16) → a1.IsWhole
    → (a2 : Memref sig .tc .vmem S1x1024 .bf16) → a2.IsWhole → (a3 : Memref sig .tc .vmem S1024x1024 .f32) → a3.IsWhole
    → (a4 : Memref sig .tc .vmem S512x1024 .bf16) → a4.IsWhole → (a5 : Memref sig .tc .vmem S512x1024 .bf16) → a5.IsWhole
    → (a6 : Memref sig .tc .vmem S512x1024 .bf16) → a6.IsWhole → DmaSems sig S8 → DmaSems sig S8 → DmaSems sig S8 → DmaSems sig S8 → β) : β :=
  p (M 0) (Memref.isWhole_whole _) plM (Memref.isWhole_whole _) gM (Memref.isWhole_whole _) outM (Memref.isWhole_whole _)
    (M 1) (Memref.isWhole_whole _) (M 2) (Memref.isWhole_whole _) (M 3) (Memref.isWhole_whole _) cc0_scratch3 cc0_scratch4 cc0_scratch5 cc0_scratch6

theorem dev_x (c : Dev nD) : ((c.val % 2) + 2) - 2 * (c.val / 2) = (xN c).val := by revert c; decide

theorem part2 {Q : (BitVec 32) → sProp 𝕄} (v2 v6 c2_i32_23 : BitVec 32)
    (h : Inv s K c ![1, 1, 1, 1, 0, 0, 0, 0] ⊢ Q (2#32)) :
    Inv s K c ![1, 0, 0, 0, 0, 0, 0, 0] ⊢ run c (atB (k0_part2 (F := F)) c v2 v6 c2_i32_23) Q := by
  rw [k0_part2_eq_skeleton]; unfold k0_part2_skel
  refine y_send s K c 1 rfl (Fin.ext (k0_dev4_eq c)) rfl rfl rfl rfl ?_
  refine y_send s K c 2 rfl (Fin.ext (k0_dev5_eq c)) rfl rfl rfl rfl ?_
  refine y_send s K c 3 rfl (Fin.ext (k0_dev6_eq c)) rfl rfl rfl rfl ?_
  exact step_ret c (at_stages s K c (by decide) h)

theorem part3 {Q : (BitVec 32) → sProp 𝕄} (v2 v6 c2_i32_45 : BitVec 32)
    (h : Inv s K c ![1, 1, 1, 1, 1, 1, 1, 0] ⊢ Q (2#32)) :
    Inv s K c ![1, 1, 1, 1, 0, 0, 0, 0] ⊢ run c (atB (k0_part3 (F := F)) c v2 v6 c2_i32_45) Q := by
  rw [k0_part3_eq_skeleton]; unfold k0_part3_skel
  refine y_send s K c 4 rfl (Fin.ext (k0_dev7_eq c)) rfl rfl rfl rfl ?_
  refine y_send s K c 5 rfl (Fin.ext (k0_dev8_eq c)) rfl rfl rfl rfl ?_
  refine y_send s K c 6 rfl (Fin.ext (k0_dev9_eq c)) rfl rfl rfl rfl ?_
  exact step_ret c (at_stages s K c (by decide) h)

theorem part4 {Q : (FVec F S64x1024 .bf16) → sProp 𝕄} (v2 v5 v6 v7 c2_i32_66 : BitVec 32)
    (h : Inv s K c ![3, 1, 1, 1, 1, 1, 1, 1] ⊢ Q ((k0_pay1 (rdc (s.ps (yN c)) 0) (rdc (s.pl c) 0)))) :
    Inv s K c ![1, 1, 1, 1, 1, 1, 1, 0] ⊢ run c (atB (k0_part4 (F := F)) c v2 v5 v6 v7 c2_i32_66) Q := by
  rw [k0_part4_eq_skeleton]; unfold k0_part4_skel
  refine y_send s K c 7 rfl (Fin.ext (k0_dev10_eq c)) rfl rfl rfl rfl ?_
  refine y_wait s K c 0 rfl (by decide) rfl (credit_eq 1 0) ?_
  refine ld_recv s K c 0 rfl rfl rfl ?_
  refine step_load_pl s K c 0 rfl rfl ?_
  refine ld_fwd s K c 0 rfl rfl rfl fun _ => ?_
  refine st_fwd s K c 0 rfl rfl rfl (shapeCast_self _ _) ?_
  exact step_ret c (at_stages s K c (by decide) h)

theorem part5 {Q : (Vec F S64x1024 .bf16) → sProp 𝕄} (v2 v6 : BitVec 32)
    (h : Inv s K c ![5, 2, 1, 1, 1, 1, 1, 1] ⊢ Q ((rdc (s.ps (yN c)) 1))) :
    Inv s K c ![3, 1, 1, 1, 1, 1, 1, 1] ⊢ run c (atB (k0_part5 (F := F)) c v2 v6 ((k0_pay1 (rdc (s.ps (yN c)) 0) (rdc (s.pl c) 0)))) Q := by
  rw [k0_part5_eq_skeleton]; unfold k0_part5_skel
  refine x_send s K c 0 rfl (Fin.ext ((k0_dev11_eq c).trans (dev_x c))) rfl rfl rfl rfl ?_
  refine step_load_g s K c rfl rfl ?_
  refine ld_own s K c 0 rfl rfl (off_own c 0) fun _ => ?_
  refine st_own s K c 0 rfl rfl (off_own c 0) rfl ?_
  refine y_wait s K c 1 rfl (by decide) rfl (credit_eq 1 1) ?_
  refine ld_recv s K c 1 rfl rfl rfl ?_
  exact step_ret c (at_stages s K c (by decide) h)

theorem part6 {Q : (PUnit) → sProp 𝕄} (v2 v5 v7 : BitVec 32)
    (h : Inv s K c ![5, 5, 1, 1, 1, 1, 1, 1] ⊢ Q ⟨⟩) :
    Inv s K c ![5, 2, 1, 1, 1, 1, 1, 1] ⊢ run c (atB (k0_part6 (F := F)) c v2 v5 v7 ((rdc (s.ps (yN c)) 1))) Q := by
  rw [k0_part6_eq_skeleton]; unfold k0_part6_skel
  refine step_load_pl s K c 1 rfl rfl ?_
  refine ld_fwd s K c 1 rfl rfl rfl fun _ => ?_
  refine st_fwd s K c 1 rfl rfl rfl (shapeCast_self _ _) ?_
  refine x_send s K c 1 rfl (Fin.ext ((k0_dev12_eq c).trans (dev_x c))) rfl rfl rfl rfl ?_
  refine step_load_g s K c rfl rfl ?_
  refine ld_own s K c 1 rfl rfl (off_own c 1) fun _ => ?_
  refine st_own s K c 1 rfl rfl (off_own c 1) rfl ?_
  exact step_ret c (at_stages s K c (by decide) h)

theorem part7 {Q : (Σ' (v212 : FVec F S64x1024 .f32) (v217 : FVec F S64x1 .f32), F .f32) → sProp 𝕄} (v2 v5 v6 v7 : BitVec 32)
    (h : Inv s K c ![5, 5, 4, 1, 1, 1, 1, 1] ⊢ Q ⟨k0_pay9 (rdc (s.ps (yN c)) 2) (rdc (s.pl c) 2), k0_pay10 (rdc (s.ps (yN c)) 2) (rdc (s.pl c) 2), (Scalar.ofBits .f32 0x358637BD#32 : F .f32)⟩) :
    Inv s K c ![5, 5, 1, 1, 1, 1, 1, 1] ⊢ run c (atB (k0_part7 (F := F)) c v2 v5 v6 v7) Q := by
  rw [k0_part7_eq_skeleton]; unfold k0_part7_skel
  refine y_wait s K c 2 rfl (by decide) rfl (credit_eq 1 2) ?_
  refine ld_recv s K c 2 rfl rfl rfl ?_
  refine step_load_pl s K c 2 rfl rfl ?_
  refine ld_fwd s K c 2 rfl rfl rfl fun _ => ?_
  refine st_fwd s K c 2 rfl rfl rfl (shapeCast_self _ _) ?_
  refine x_send s K c 2 rfl (Fin.ext ((k0_dev13_eq c).trans (dev_x c))) rfl rfl rfl rfl ?_
  exact step_ret c (at_stages s K c (by decide) h)

theorem part8 {Q : (Σ' (v243 : FVec F S64x1024 .bf16) (v248 : BitVec 32), BitVec 32) → sProp 𝕄} (v2 v5 v6 v7 : BitVec 32)
    (h : Inv s K c ![5, 5, 5, 3, 1, 1, 1, 1] ⊢ Q ⟨k0_pay12 (rdc (s.ps (yN c)) 3) (rdc (s.pl c) 3), (Scalar.addi 0#32 (Scalar.muli v7 2#32)), (Scalar.muli v5 1#32)⟩) :
    Inv s K c ![5, 5, 4, 1, 1, 1, 1, 1] ⊢ run c (atB (k0_part8 (F := F)) c v2 v5 v6 v7 (k0_pay9 (rdc (s.ps (yN c)) 2) (rdc (s.pl c) 2)) (k0_pay10 (rdc (s.ps (yN c)) 2) (rdc (s.pl c) 2)) ((Scalar.ofBits .f32 0x358637BD#32 : F .f32))) Q := by
  rw [k0_part8_eq_skeleton]; unfold k0_part8_skel
  refine step_load_g s K c rfl rfl ?_
  refine ld_own s K c 2 rfl rfl (off_own c 2) fun _ => ?_
  refine st_own s K c 2 rfl rfl (off_own c 2) rfl ?_
  refine y_wait s K c 3 rfl (by decide) rfl (credit_eq 1 3) ?_
  refine ld_recv s K c 3 rfl rfl rfl ?_
  refine step_load_pl s K c 3 rfl rfl ?_
  refine ld_fwd s K c 3 rfl rfl rfl fun _ => ?_
  refine st_fwd s K c 3 rfl rfl rfl (shapeCast_self _ _) ?_
  exact step_ret c (at_stages s K c (by decide) h)

theorem part9 {Q : (PUnit) → sProp 𝕄} (v2 v6 v248 v249 : BitVec 32)
    (h : Inv s K c ![5, 5, 5, 5, 2, 1, 1, 1] ⊢ Q ⟨⟩) :
    Inv s K c ![5, 5, 5, 3, 1, 1, 1, 1] ⊢ run c (atB (k0_part9 (F := F)) c v2 v6 (k0_pay12 (rdc (s.ps (yN c)) 3) (rdc (s.pl c) 3)) v248 v249) Q := by
  rw [k0_part9_eq_skeleton]; unfold k0_part9_skel
  refine x_send s K c 3 rfl (Fin.ext ((k0_dev14_eq c).trans (dev_x c))) rfl rfl rfl rfl ?_
  refine step_load_g s K c rfl rfl ?_
  refine ld_own s K c 3 rfl rfl (off_own c 3) fun _ => ?_
  refine st_own s K c 3 rfl rfl (off_own c 3) rfl ?_
  refine y_wait s K c 4 rfl (by decide) rfl (credit_eq 1 4) ?_
  exact step_ret c (at_stages s K c (by decide) h)

theorem part10 {Q : (FVec F S64x1024 .f32) → sProp 𝕄} (v2 v5 v7 : BitVec 32)
    (h : Inv s K c ![5, 5, 5, 5, 4, 1, 1, 1] ⊢ Q ((k0_pay17 (rdc (s.ps (yN c)) 4) (rdc (s.pl c) 4) (s.g c)))) :
    Inv s K c ![5, 5, 5, 5, 2, 1, 1, 1] ⊢ run c (atB (k0_part10 (F := F)) c v2 v5 v7) Q := by
  rw [k0_part10_eq_skeleton]; unfold k0_part10_skel
  refine ld_recv s K c 4 rfl rfl rfl ?_
  refine step_load_pl s K c 4 rfl rfl ?_
  refine ld_fwd s K c 4 rfl rfl rfl fun _ => ?_
  refine st_fwd s K c 4 rfl rfl rfl (shapeCast_self _ _) ?_
  refine x_send s K c 4 rfl (Fin.ext ((k0_dev15_eq c).trans (dev_x c))) rfl rfl rfl rfl ?_
  refine step_load_g s K c rfl rfl ?_
  exact step_ret c (at_stages s K c (by decide) h)

theorem part11 {Q : (Σ' (v347 : FVec F S64x1024 .f32) (v350 : FVec F S64x1 .f32), F .f32) → sProp 𝕄} (v2 v5 v6 v7 : BitVec 32)
    (h : Inv s K c ![5, 5, 5, 5, 5, 4, 1, 1] ⊢ Q ⟨k0_pay20 (rdc (s.ps (yN c)) 5) (rdc (s.pl c) 5), k0_pay21 (rdc (s.ps (yN c)) 5) (rdc (s.pl c) 5), (Scalar.ofBits .f32 0x44800000#32 : F .f32)⟩) :
    Inv s K c ![5, 5, 5, 5, 4, 1, 1, 1] ⊢ run c (atB (k0_part11 (F := F)) c v2 v5 v6 v7 ((k0_pay17 (rdc (s.ps (yN c)) 4) (rdc (s.pl c) 4) (s.g c)))) Q := by
  rw [k0_part11_eq_skeleton]; unfold k0_part11_skel
  refine ld_own s K c 4 rfl rfl (off_own c 4) fun _ => ?_
  refine st_own s K c 4 rfl rfl (off_own c 4) rfl ?_
  refine y_wait s K c 5 rfl (by decide) rfl (credit_eq 1 5) ?_
  refine ld_recv s K c 5 rfl rfl rfl ?_
  refine step_load_pl s K c 5 rfl rfl ?_
  refine ld_fwd s K c 5 rfl rfl rfl fun _ => ?_
  refine st_fwd s K c 5 rfl rfl rfl (shapeCast_self _ _) ?_
  refine x_send s K c 5 rfl (Fin.ext ((k0_dev16_eq c).trans (dev_x c))) rfl rfl rfl rfl ?_
  exact step_ret c (at_stages s K c (by decide) h)

theorem part12 {Q : (Σ' (v378 : FVec F S64x1024 .bf16) (v382 : BitVec 32), BitVec 32) → sProp 𝕄} (v2 v6 v7 : BitVec 32)
    (h : Inv s K c ![5, 5, 5, 5, 5, 5, 3, 1] ⊢ Q ⟨k0_pay23 (rdc (s.ps (yN c)) 6) (rdc (s.pl c) 6), (Scalar.muli v7 2#32), 0#32⟩) :
    Inv s K c ![5, 5, 5, 5, 5, 4, 1, 1] ⊢ run c (atB (k0_part12 (F := F)) c v2 v6 v7 (k0_pay20 (rdc (s.ps (yN c)) 5) (rdc (s.pl c) 5)) (k0_pay21 (rdc (s.ps (yN c)) 5) (rdc (s.pl c) 5)) ((Scalar.ofBits .f32 0x44800000#32 : F .f32))) Q := by
  rw [k0_part12_eq_skeleton]; unfold k0_part12_skel
  refine step_load_g s K c rfl rfl ?_
  refine ld_own s K c 5 rfl rfl (off_own c 5) fun _ => ?_
  refine st_own s K c 5 rfl rfl (off_own c 5) rfl ?_
  refine y_wait s K c 6 rfl (by decide) rfl (credit_eq 1 6) ?_
  refine ld_recv s K c 6 rfl rfl rfl ?_
  refine step_load_pl s K c 6 rfl rfl ?_
  refine ld_fwd s K c 6 rfl rfl rfl fun _ => ?_
  refine st_fwd s K c 6 rfl rfl rfl (shapeCast_self _ _) ?_
  exact step_ret c (at_stages s K c (by decide) h)

theorem part13 {Q : (PUnit) → sProp 𝕄} (v2 v5 v6 v382 c0_i32_273 : BitVec 32)
    (h : Inv s K c ![5, 5, 5, 5, 5, 5, 5, 1] ⊢ Q ⟨⟩) :
    Inv s K c ![5, 5, 5, 5, 5, 5, 3, 1] ⊢ run c (atB (k0_part13 (F := F)) c v2 v5 v6 (k0_pay23 (rdc (s.ps (yN c)) 6) (rdc (s.pl c) 6)) v382 c0_i32_273) Q := by
  rw [k0_part13_eq_skeleton]; unfold k0_part13_skel
  refine x_send s K c 6 rfl (Fin.ext ((k0_dev17_eq c).trans (dev_x c))) rfl rfl rfl rfl ?_
  refine step_load_g s K c rfl rfl ?_
  refine ld_own s K c 6 rfl rfl (off_own c 6) fun _ => ?_
  refine st_own s K c 6 rfl rfl (off_own c 6) rfl ?_
  exact step_ret c (at_stages s K c (by decide) h)

theorem part14 {Q : (Σ' (v452 : FVec F S64x1024 .f32) (v453 : BitVec 32), BitVec 32) → sProp 𝕄} (v2 v5 v7 : BitVec 32)
    (h : Inv s K c ![5, 5, 5, 5, 5, 5, 5, 4] ⊢ Q ⟨k0_pay28 (rdc (s.ps (yN c)) 7) (rdc (s.pl c) 7) (s.g c), (Scalar.muli v2 512#32), 448#32⟩) :
    Inv s K c ![5, 5, 5, 5, 5, 5, 5, 1] ⊢ run c (atB (k0_part14 (F := F)) c v2 v5 v7) Q := by
  rw [k0_part14_eq_skeleton]; unfold k0_part14_skel
  refine y_wait s K c 7 rfl (by decide) rfl (credit_eq 1 7) ?_
  refine ld_recv s K c 7 rfl rfl rfl ?_
  refine step_load_pl s K c 7 rfl rfl ?_
  refine ld_fwd s K c 7 rfl rfl rfl fun _ => ?_
  refine st_fwd s K c 7 rfl rfl rfl (shapeCast_self _ _) ?_
  refine x_send s K c 7 rfl (Fin.ext ((k0_dev18_eq c).trans (dev_x c))) rfl rfl rfl rfl ?_
  refine step_load_g s K c rfl rfl ?_
  exact step_ret c (at_stages s K c (by decide) h)

theorem part15 {Q : (BitVec 32) → sProp 𝕄} (v2 v5 v7 v453 c448_i32_316 : BitVec 32)
    (h : Inv s K c ![7, 5, 5, 5, 5, 5, 5, 5] ⊢ Q (2#32)) :
    Inv s K c ![5, 5, 5, 5, 5, 5, 5, 4] ⊢ run c (atB (k0_part15 (F := F)) c v2 v5 v7 (k0_pay28 (rdc (s.ps (yN c)) 7) (rdc (s.pl c) 7) (s.g c)) v453 c448_i32_316) Q := by
  rw [k0_part15_eq_skeleton]; unfold k0_part15_skel
  refine ld_own s K c 7 rfl rfl (off_own c 7) fun _ => ?_
  refine st_own s K c 7 rfl rfl (off_own c 7) rfl ?_
  refine x_wait s K c 0 rfl (by decide) rfl (credit_eq 3 0) ?_
  refine ld_rx s K c 0 rfl rfl rfl ?_
  refine step_load_g s K c rfl rfl ?_
  refine ld_oth s K c 0 rfl rfl (off_oth c 0) fun _ => ?_
  refine st_oth s K c 0 rfl rfl (off_oth c 0) rfl ?_
  exact step_ret c (at_stages s K c (by decide) h)

theorem part16 {Q : (PUnit) → sProp 𝕄} (v2 v5 v7 c2_i32_340 : BitVec 32)
    (h : Inv s K c ![7, 7, 5, 5, 5, 5, 5, 5] ⊢ Q ⟨⟩) :
    Inv s K c ![7, 5, 5, 5, 5, 5, 5, 5] ⊢ run c (atB (k0_part16 (F := F)) c v2 v5 v7 c2_i32_340) Q := by
  rw [k0_part16_eq_skeleton]; unfold k0_part16_skel
  refine x_wait s K c 1 rfl (by decide) rfl (credit_eq 3 1) ?_
  refine ld_rx s K c 1 rfl rfl rfl ?_
  refine step_load_g s K c rfl rfl ?_
  refine ld_oth s K c 1 rfl rfl (off_oth c 1) fun _ => ?_
  refine st_oth s K c 1 rfl rfl (off_oth c 1) rfl ?_
  exact step_ret c (at_stages s K c (by decide) h)

theorem part17 {Q : (PUnit) → sProp 𝕄} (v2 v5 v7 : BitVec 32)
    (h : Inv s K c ![7, 7, 7, 6, 5, 5, 5, 5] ⊢ Q ⟨⟩) :
    Inv s K c ![7, 7, 5, 5, 5, 5, 5, 5] ⊢ run c (atB (k0_part17 (F := F)) c v2 v5 v7) Q := by
  rw [k0_part17_eq_skeleton]; unfold k0_part17_skel
  refine x_wait s K c 2 rfl (by decide) rfl (credit_eq 3 2) ?_
  refine ld_rx s K c 2 rfl rfl rfl ?_
  refine step_load_g s K c rfl rfl ?_
  refine ld_oth s K c 2 rfl rfl (off_oth c 2) fun _ => ?_
  refine st_oth s K c 2 rfl rfl (off_oth c 2) rfl ?_
  refine x_wait s K c 3 rfl (by decide) rfl (credit_eq 3 3) ?_
  exact step_ret c (at_stages s K c (by decide) h)

theorem part18 {Q : (Σ' (v586 : FVec F S64x1024 .f32) (v589 : FVec F S64x1 .f32), F .f32) → sProp 𝕄} (v2 v5 v7 : BitVec 32)
    (h : Inv s K c ![7, 7, 7, 7, 6, 5, 5, 5] ⊢ Q ⟨k0_pay33 (sumv s (xN c) 4), k0_pay34 (sumv s (xN c) 4), (Scalar.ofBits .f32 0x44800000#32 : F .f32)⟩) :
    Inv s K c ![7, 7, 7, 6, 5, 5, 5, 5] ⊢ run c (atB (k0_part18 (F := F)) c v2 v5 v7) Q := by
  rw [k0_part18_eq_skeleton]; unfold k0_part18_skel
  refine ld_rx s K c 3 rfl rfl rfl ?_
  refine step_load_g s K c rfl rfl ?_
  refine ld_oth s K c 3 rfl rfl (off_oth c 3) fun _ => ?_
  refine st_oth s K c 3 rfl rfl (off_oth c 3) rfl ?_
  refine x_wait s K c 4 rfl (by decide) rfl (credit_eq 3 4) ?_
  refine ld_rx s K c 4 rfl rfl rfl ?_
  exact step_ret c (at_stages s K c (by decide) h)

theorem part19 {Q : (Σ' (v616 : FVec F S64x1024 .f32), FVec F S64x1 .f32) → sProp 𝕄} (v2 v5 v7 : BitVec 32)
    (h : Inv s K c ![7, 7, 7, 7, 7, 6, 5, 5] ⊢ Q ⟨k0_pay36 (sumv s (xN c) 5), k0_pay37 (sumv s (xN c) 5)⟩) :
    Inv s K c ![7, 7, 7, 7, 6, 5, 5, 5] ⊢ run c (atB (k0_part19 (F := F)) c v2 v5 v7 (k0_pay33 (sumv s (xN c) 4)) (k0_pay34 (sumv s (xN c) 4)) ((Scalar.ofBits .f32 0x44800000#32 : F .f32))) Q := by
  rw [k0_part19_eq_skeleton]; unfold k0_part19_skel
  refine step_load_g s K c rfl rfl ?_
  refine ld_oth s K c 4 rfl rfl (off_oth c 4) fun _ => ?_
  refine st_oth s K c 4 rfl rfl (off_oth c 4) rfl ?_
  refine x_wait s K c 5 rfl (by decide) rfl (credit_eq 3 5) ?_
  refine ld_rx s K c 5 rfl rfl rfl ?_
  exact step_ret c (at_stages s K c (by decide) h)

theorem part20 {Q : (Σ' (v661 : FVec F S64x1024 .f32), BitVec 32) → sProp 𝕄} (v2 v5 v7 : BitVec 32)
    (h : Inv s K c ![7, 7, 7, 7, 7, 7, 6, 5] ⊢ Q ⟨k0_pay39 (sumv s (xN c) 6) (s.g c), 1#32⟩) :
    Inv s K c ![7, 7, 7, 7, 7, 6, 5, 5] ⊢ run c (atB (k0_part20 (F := F)) c v2 v5 v7 (k0_pay36 (sumv s (xN c) 5)) (k0_pay37 (sumv s (xN c) 5))) Q := by
  rw [k0_part20_eq_skeleton]; unfold k0_part20_skel
  refine step_load_g s K c rfl rfl ?_
  refine ld_oth s K c 5 rfl rfl (off_oth c 5) fun _ => ?_
  refine st_oth s K c 5 rfl rfl (off_oth c 5) rfl ?_
  refine x_wait s K c 6 rfl (by decide) rfl (credit_eq 3 6) ?_
  refine ld_rx s K c 6 rfl rfl rfl ?_
  refine step_load_g s K c rfl rfl ?_
  exact step_ret c (at_stages s K c (by decide) h)

theorem part21 {Q : (FVec F S64x1024 .f32) → sProp 𝕄} (v2 v5 v7 c1_i32_454 : BitVec 32)
    (h : Inv s K c ![7, 7, 7, 7, 7, 7, 7, 6] ⊢ Q ((k0_pay40 (sumv s (xN c) 7) (s.g c)))) :
    Inv s K c ![7, 7, 7, 7, 7, 7, 6, 5] ⊢ run c (atB (k0_part21 (F := F)) c v2 v5 v7 (k0_pay39 (sumv s (xN c) 6) (s.g c)) c1_i32_454) Q := by
  rw [k0_part21_eq_skeleton]; unfold k0_part21_skel
  refine ld_oth s K c 6 rfl rfl (off_oth c 6) fun _ => ?_
  refine st_oth s K c 6 rfl rfl (off_oth c 6) rfl ?_
  refine x_wait s K c 7 rfl (by decide) rfl (credit_eq 3 7) ?_
  refine ld_rx s K c 7 rfl rfl rfl ?_
  refine step_load_g s K c rfl rfl ?_
  refine ld_oth s K c 7 rfl rfl (off_oth c 7) fun _ => ?_
  exact step_ret c (at_stages s K c (by decide) h)

theorem part22 {Q : (PUnit) → sProp 𝕄}
    (h : Inv s K c ![9, 9, 7, 7, 7, 7, 7, 7] ⊢ Q ⟨⟩) :
    Inv s K c ![7, 7, 7, 7, 7, 7, 7, 6] ⊢ run c (atB (k0_part22 (F := F)) c ((k0_pay40 (sumv s (xN c) 7) (s.g c)))) Q := by
  rw [k0_part22_eq_skeleton]; unfold k0_part22_skel
  refine st_oth s K c 7 rfl rfl (off_oth c 7) rfl ?_
  refine sy_wait s K c 0 rfl rfl (credit_eq 0 0) ?_
  refine sx_wait s K c 0 rfl rfl (credit_eq 2 0) ?_
  refine sy_wait s K c 1 rfl rfl (credit_eq 0 1) ?_
  refine sx_wait s K c 1 rfl rfl (credit_eq 2 1) ?_
  exact step_ret c (at_stages s K c (by decide) h)

theorem part23 {Q : (PUnit) → sProp 𝕄}
    (h : Inv s K c ![9, 9, 9, 9, 8, 7, 7, 7] ⊢ Q ⟨⟩) :
    Inv s K c ![9, 9, 7, 7, 7, 7, 7, 7] ⊢ run c (atB (k0_part23 (F := F))) Q := by
  rw [k0_part23_eq_skeleton]; unfold k0_part23_skel
  refine sy_wait s K c 2 rfl rfl (credit_eq 0 2) ?_
  refine sx_wait s K c 2 rfl rfl (credit_eq 2 2) ?_
  refine sy_wait s K c 3 rfl rfl (credit_eq 0 3) ?_
  refine sx_wait s K c 3 rfl rfl (credit_eq 2 3) ?_
  refine sy_wait s K c 4 rfl rfl (credit_eq 0 4) ?_
  exact step_ret c (at_stages s K c (by decide) h)

theorem part24 {Q : (PUnit) → sProp 𝕄}
    (h : Inv s K c ![9, 9, 9, 9, 9, 9, 9, 7] ⊢ Q ⟨⟩) :
    Inv s K c ![9, 9, 9, 9, 8, 7, 7, 7] ⊢ run c (atB (k0_part24 (F := F))) Q := by
  rw [k0_part24_eq_skeleton]; unfold k0_part24_skel
  refine sx_wait s K c 4 rfl rfl (credit_eq 2 4) ?_
  refine sy_wait s K c 5 rfl rfl (credit_eq 0 5) ?_
  refine sx_wait s K c 5 rfl rfl (credit_eq 2 5) ?_
  refine sy_wait s K c 6 rfl rfl (credit_eq 0 6) ?_
  refine sx_wait s K c 6 rfl rfl (credit_eq 2 6) ?_
  exact step_ret c (at_stages s K c (by decide) h)

end Cert.KernelIdeal.Talk

end
-- ==== Proof.Ideal.Buffers.lean ====
/- The whole buffers as their blocks of 64 rows, before the body and after it. -/
module

public import proofs.«01_k».proof.Proof.Ideal.Steps

@[expose] public section

noncomputable section

namespace Cert.KernelIdeal.Talk

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg BodyObligation cellOf)
open Cert.KernelIdeal Cert.KernelIdeal.Gen

variable {F : FTy → Type} [FloatOps F]

local notation "𝕄" => MT nD τ sig Unit (Elt F) ℕ UU ℕ

/-! ## Blocks -/

theorem ch_disjoint (k k' : Fin 8) (h : k ≠ k') : Disjoint (chR k).set (chR k').set :=
  Ring.lead_disjoint (s := S512x1024) (0 : Fin 2) 64 (fun k : Fin 8 => (![64 * k.val, 0] : Fin 2 → ℕ)) S64x1024.size inbCh (fun _ => rfl) rfl k k' h
theorem ch_cover : Finset.univ.biUnion (fun k : Fin 8 => (chR k).set) = Finset.univ :=
  Ring.lead_cover (s := S512x1024) (0 : Fin 2) 64 (fun k : Fin 8 => (![64 * k.val, 0] : Fin 2 → ℕ)) S64x1024.size inbCh (fun _ => rfl)
    (by decide) rfl (by decide) rfl
theorem out_disjoint (q q' : Fin 16) (h : q ≠ q') : Disjoint (outR q).set (outR q').set :=
  Ring.lead_disjoint (s := S1024x1024) (0 : Fin 2) 64 (fun q : Fin 16 => (![64 * q.val, 0] : Fin 2 → ℕ)) S64x1024.size inbOut (fun _ => rfl) rfl q q' h
theorem out_cover : Finset.univ.biUnion (fun q : Fin 16 => (outR q).set) = Finset.univ :=
  Ring.lead_cover (s := S1024x1024) (0 : Fin 2) 64 (fun q : Fin 16 => (![64 * q.val, 0] : Fin 2 → ℕ)) S64x1024.size inbOut (fun _ => rfl)
    (by decide) rfl (by decide) rfl

section Whole

variable {B : Type} [Fintype B] [DecidableEq B] (b : Ref sig .tc) (r : B → Rect b.ty.shape)
  (hd : ∀ k k', k ≠ k' → Disjoint (r k).set (r k').set) (hc : Finset.univ.biUnion (fun k => (r k).set) = Finset.univ) (c : Dev nD)

include hd hc

/-- A whole buffer is the blocks that tile it. -/
theorem whole_blocks (f : Buf (Elt F) ((View.whole b).loc (c : Thread nD τ))) :
    (((View.whole b).loc (c : Thread nD τ)) ↦{fullShare} f : sProp 𝕄)
      = bigSep Finset.univ fun k => ((View.whole b).slice (r k)).loc (c : Thread nD τ) ↦[((View.whole b).slice (r k)).set]{fullShare} f := by
  have h := Ring.pointsTo_blocks (Ix := Unit) (Name := ℕ) (U := UU) (Lvl := ℕ) (ℓ := (View.whole b).loc (c : Thread nD τ)) (q := fullShare) (fun k => (r k).set) hd hc f
  refine h.trans (bigSep_congr fun k _ => ?_)
  rw [View.set_slice_whole]

theorem whole_join (f₀ : Buf (Elt F) ((View.whole b).loc (c : Thread nD τ))) :
    (bigSep Finset.univ fun k => iprop(∃ f : Buf (Elt F) (((View.whole b).slice (r k)).loc (c : Thread nD τ)),
      ((View.whole b).slice (r k)).loc (c : Thread nD τ) ↦[((View.whole b).slice (r k)).set]{fullShare} f))
      ⊢ (iprop(∃ f : Buf (Elt F) ((View.whole b).loc (c : Thread nD τ)), ((View.whole b).loc (c : Thread nD τ)) ↦{fullShare} f) : sProp 𝕄) := by
  have h := Ring.pointsTo_blocks_join_exists (Ix := Unit) (Name := ℕ) (U := UU) (Lvl := ℕ) (ℓ := (View.whole b).loc (c : Thread nD τ)) (q := fullShare) (fun k => (r k).set) hd hc f₀
  refine (Entails.of_eq (bigSep_congr fun k _ => ?_)).trans h
  rw [View.set_slice_whole]

end Whole

/-- Device `c`'s buffer `a` whole, at some contents. -/
def bufAny (a : Fin 4) (c : Dev nD) : sProp 𝕄 := iprop(∃ f : Buf (Elt F) ((M a).view.loc (c : Thread nD τ)), ((M a).view.loc (c : Thread nD τ)) ↦{fullShare} f)

/-- A buffer whole is its eight chunks. -/
theorem buf_blocks (a : Fin 4) (c : Dev nD) (f : Buf (Elt F) ((M a).view.loc (c : Thread nD τ))) :
    (((M a).view.loc (c : Thread nD τ)) ↦{fullShare} f : sProp 𝕄)
      = bigSep Finset.univ fun k : Fin 8 => ((ch a k).view.loc (c : Thread nD τ)) ↦[(ch a k).view.set]{fullShare} f := by
  match a with
  | 0 => exact whole_blocks cc0_stg0_0 chR ch_disjoint ch_cover c f
  | 1 => exact whole_blocks cc0_scratch0 chR ch_disjoint ch_cover c f
  | 2 => exact whole_blocks cc0_scratch1 chR ch_disjoint ch_cover c f
  | 3 => exact whole_blocks cc0_scratch2 chR ch_disjoint ch_cover c f

theorem ch_any (a : Fin 4) (c : Dev nD) (k : Fin 8) (f : Buf (Elt F) ((ch a k).view.loc (c : Thread nD τ))) :
    ((ch a k).view.loc (c : Thread nD τ) ↦[(ch a k).view.set]{fullShare} f) ⊢ ptsAny a c k := by
  unfold ptsAny pts
  iintro H; iexists _; iexists f; isplitr; · ipureintro; rfl
  iexact H
theorem ch_some (a : Fin 4) (c : Dev nD) (k : Fin 8) :
    ptsAny (F := F) a c k ⊢ iprop(∃ f : Buf (Elt F) ((ch a k).view.loc (c : Thread nD τ)), (ch a k).view.loc (c : Thread nD τ) ↦[(ch a k).view.set]{fullShare} f) := by
  unfold ptsAny pts
  iintro ⟨%v, %f, -, H⟩; iexists f; iexact H

theorem buf_split (a : Fin 4) (c : Dev nD) : bufAny (F := F) a c ⊢ bigSep Finset.univ fun k => ptsAny a c k := by
  unfold bufAny
  iintro ⟨%f, H⟩
  iapply ((Entails.of_eq (buf_blocks a c f)).trans (bigSep_mono fun k _ => ch_any a c k f)) $$ H

theorem buf_join (a : Fin 4) (c : Dev nD) (v : Half (F := F)) :
    (bigSep Finset.univ fun k => ptsAny a c k) ⊢ bufAny (F := F) a c := by
  refine (bigSep_mono fun k _ => ch_some a c k).trans ?_
  unfold bufAny
  match a with
  | 0 => exact whole_join cc0_stg0_0 chR ch_disjoint ch_cover c v
  | 1 => exact whole_join cc0_scratch0 chR ch_disjoint ch_cover c v
  | 2 => exact whole_join cc0_scratch1 chR ch_disjoint ch_cover c v
  | 3 => exact whole_join cc0_scratch2 chR ch_disjoint ch_cover c v

variable (s : Start F) (K : GSem nD τ sig → ℕ) (c : Dev nD)

/-- The rows the device sends, whole. -/
def psPts : sProp 𝕄 := iprop(((M 0).view.loc (c : Thread nD τ)) ↦{fullShare} s.ps c)

theorem ps_split : psPts s c ⊢ bigSep Finset.univ fun k => full s c k 0 := by
  have h : ∀ k, ((ch 0 k).view.loc (c : Thread nD τ) ↦[(ch 0 k).view.set]{fullShare} s.ps c) ⊢ full s c k 0 := fun k => by
    unfold full pts
    iintro H; iexists (s.ps c); isplitr; · ipureintro; rfl
    iexact H
  exact (Entails.of_eq (buf_blocks 0 c (s.ps c))).trans (bigSep_mono fun k _ => h k)

theorem ps_join : (bigSep Finset.univ fun k => full s c k 0) ⊢ psPts s c := by
  have h : ∀ k, full s c k 0 ⊢ ((ch 0 k).view.loc (c : Thread nD τ) ↦[(ch 0 k).view.set]{fullShare} s.ps c) := fun k => by
    unfold full pts
    iintro ⟨%f, %hf, H⟩
    have e : ∀ i ∈ (ch 0 k).view.set, f i = s.ps c i := fun i hi => by
      obtain ⟨x, -, rfl⟩ := Finset.mem_map.mp hi
      exact congrFun hf x
    iapply (Entails.of_eq (pointsTo_congr e)) $$ H
  exact (bigSep_mono fun k _ => h k).trans (Entails.of_eq (buf_blocks 0 c (s.ps c)).symm)

/-! ## The result -/

theorem own_inj : Function.Injective (ownQ c) := fun k k' h => by
  have := congrArg Fin.val h; simp only [ownQ] at this; exact Fin.ext (by omega)
theorem oth_inj : Function.Injective (othQ c) := fun k k' h => by
  have := congrArg Fin.val h; simp only [othQ] at this; exact Fin.ext (by omega)
theorem own_oth (c : Dev nD) : Finset.univ.map ⟨ownQ c, own_inj c⟩ ∪ Finset.univ.map ⟨othQ c, oth_inj c⟩ = (Finset.univ : Finset (Fin 16)) := by
  revert c; decide
theorem own_oth_disjoint (c : Dev nD) : Disjoint (Finset.univ.map ⟨ownQ c, own_inj c⟩) (Finset.univ.map ⟨othQ c, oth_inj c⟩) := by
  revert c; decide

/-- The sixteen row blocks are the own half's eight and the other half's eight. -/
theorem halves (Φ : Fin 16 → sProp 𝕄) :
    bigSep Finset.univ Φ = iprop((bigSep Finset.univ fun k => Φ (ownQ c k)) ∗ bigSep Finset.univ fun k => Φ (othQ c k)) := by
  rw [← own_oth c, bigSep_union (own_oth_disjoint c), bigSep_map, bigSep_map]; rfl

theorem out_blocks (f : Buf (Elt F) (outM.view.loc (c : Thread nD τ))) :
    ((outM.view.loc (c : Thread nD τ)) ↦{fullShare} f : sProp 𝕄)
      = bigSep Finset.univ fun q : Fin 16 => ((outV q).loc (c : Thread nD τ)) ↦[(outV q).set]{fullShare} f :=
  whole_blocks cc0_stg3_0 outR out_disjoint out_cover c f

theorem out_split : iprop(∃ f : Buf (Elt F) (outM.view.loc (c : Thread nD τ)), (outM.view.loc (c : Thread nD τ)) ↦{fullShare} f)
    ⊢ (iprop((bigSep Finset.univ fun k => outAny c (ownQ c k)) ∗ bigSep Finset.univ fun k => outAny c (othQ c k)) : sProp 𝕄) := by
  rw [← halves c (fun q => outAny c q)]
  have h : ∀ (q : Fin 16) (f : Buf (Elt F) (outM.view.loc (c : Thread nD τ))),
      ((outV q).loc (c : Thread nD τ) ↦[(outV q).set]{fullShare} f) ⊢ outAny c q := fun q f => by
    unfold outAny outP
    iintro H; iexists _; iexists f; isplitr; · ipureintro; rfl
    iexact H
  iintro ⟨%f, H⟩
  iapply ((Entails.of_eq (out_blocks c f)).trans (bigSep_mono fun q _ => h q f)) $$ H

/-- What row block `q` of the result is. -/
def outVal (q : Fin 16) : Vec F S64x1024 .f32 :=
  nrm s c (sumv s (if q.val / 8 = c.val / 2 then c else xN c) ⟨q.val % 8, Nat.mod_lt _ (by decide)⟩)

theorem outVal_own (k : Fin 8) : outVal s c (ownQ c k) = nrm s c (sumv s c k) := by
  have hk := k.isLt
  have h1 : (ownQ c k).val / 8 = c.val / 2 := by simp only [ownQ]; omega
  have h2 : (⟨(ownQ c k).val % 8, Nat.mod_lt _ (by decide)⟩ : Fin 8) = k := Fin.ext (by simp only [ownQ]; omega)
  unfold outVal; rw [if_pos h1, h2]
theorem outVal_oth (k : Fin 8) : outVal s c (othQ c k) = nrm s c (sumv s (xN c) k) := by
  have hk := k.isLt
  have hc := c.isLt
  simp only [nD] at hc
  have h1 : ¬ (othQ c k).val / 8 = c.val / 2 := by simp only [othQ]; omega
  have h2 : (⟨(othQ c k).val % 8, Nat.mod_lt _ (by decide)⟩ : Fin 8) = k := Fin.ext (by simp only [othQ]; omega)
  unfold outVal; rw [if_neg h1, h2]

theorem out_at (i : S1024x1024.Idx) : ∃ q : Fin 16, ∃ x : S64x1024.Idx, (outR q).emb x = i := by
  have h : i ∈ Finset.univ.biUnion (fun q : Fin 16 => (outR q).set) := by rw [out_cover]; exact Finset.mem_univ _
  obtain ⟨q, -, hq⟩ := Finset.mem_biUnion.mp h
  rw [← Rect.map_emb_univ] at hq
  obtain ⟨x, -, hx⟩ := Finset.mem_map.mp hq
  exact ⟨q, x, hx⟩

theorem out_at_unique {q q' : Fin 16} {x x' : S64x1024.Idx} (h : (outR q).emb x = (outR q').emb x') : q = q' ∧ x = x' := by
  have hq : q = q' := by
    by_contra hn
    refine Finset.disjoint_left.mp (out_disjoint q q' hn) (?_ : (outR q).emb x ∈ _) ?_
    · rw [← Rect.map_emb_univ]; exact Finset.mem_map_of_mem _ (Finset.mem_univ _)
    · rw [h, ← Rect.map_emb_univ]; exact Finset.mem_map_of_mem _ (Finset.mem_univ _)
  subst hq
  exact ⟨rfl, (outR q).emb.injective h⟩

/-- The device's whole result. -/
def OUT : (⟨S1024x1024, .f32⟩ : BufTy).Contents (Elt F) :=
  fun i => outVal s c (out_at i).choose (out_at i).choose_spec.choose

theorem OUT_emb (q : Fin 16) (x : S64x1024.Idx) : OUT s c ((outR q).emb x) = outVal s c q x := by
  have h := out_at_unique (out_at ((outR q).emb x)).choose_spec.choose_spec
  exact congrArg₂ (outVal s c) h.1 h.2

def outPts : sProp 𝕄 := iprop((outM.view.loc (c : Thread nD τ)) ↦{fullShare} OUT s c)

theorem out_join : iprop((bigSep Finset.univ fun k => ownDone s c k) ∗ bigSep Finset.univ fun k => othDone s c k) ⊢ outPts s c := by
  have h : ∀ q, outP c q (outVal s c q) ⊢ ((outV q).loc (c : Thread nD τ) ↦[(outV q).set]{fullShare} OUT s c) := fun q => by
    unfold outP
    iintro ⟨%f, %hf, H⟩
    have e : ∀ i ∈ (outV q).set, f i = OUT s c i := fun i hi => by
      obtain ⟨x, -, rfl⟩ := Finset.mem_map.mp hi
      exact (congrFun hf x).trans (OUT_emb s c q x).symm
    iapply (Entails.of_eq (pointsTo_congr e)) $$ H
  unfold outPts ownDone othDone
  rw [out_blocks, ← show iprop((bigSep Finset.univ fun k => outP c (ownQ c k) (outVal s c (ownQ c k))) ∗ bigSep Finset.univ fun k => outP c (othQ c k) (outVal s c (othQ c k)))
    = iprop((bigSep Finset.univ fun k => outP c (ownQ c k) (nrm s c (sumv s c k))) ∗ bigSep Finset.univ fun k => outP c (othQ c k) (nrm s c (sumv s (xN c) k))) from by
      simp only [outVal_own, outVal_oth], ← halves c (fun q => outP c q (outVal s c q))]
  exact bigSep_mono fun q _ => h q

end Cert.KernelIdeal.Talk

end
-- ==== Proof.Ideal.Body.lean ====
/- The whole body: the two signals and the wait that open it, the parts, and the closing of every cell. -/
module

public import proofs.«01_k».proof.Proof.Ideal.Parts
public import proofs.«01_k».proof.Proof.Ideal.Buffers

@[expose] public section

noncomputable section

namespace Cert.KernelIdeal.Talk

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg BodyObligation cellOf)
open Cert.KernelIdeal Cert.KernelIdeal.Gen

variable {F : FTy → Type} [FloatOps F]

local notation "𝕄" => MT nD τ sig Unit (Elt F) ℕ UU ℕ

variable (s : Start F) (K : GSem nD τ sig → ℕ) (c : Dev nD)

/-- The printed body at the region's buffers. -/
abbrev body0 : Prog (TpuEff nD τ sig (Elt F) Λ₀ .tc) PUnit := atB (cc0_body (F := F))

/-- What opens a chunk, beside the buffers: its two waits, and the tokens and counters its two transfers need. -/
def toks (k : Fin 8) : sProp 𝕄 :=
  iprop(wt c k 1 ∗ wt c k 3
    ∗ (dutyTok ER (cell (yN c) 1 k) 0 false ∗ dutyTok ER (cell c 0 k) 0 false ∗ reached ER (cell c 0 k) 0 ∗ atPos ER (cell c 0 k) 0 ∅ 0)
    ∗ (dutyTok ER (cell (xN c) 3 k) 0 false ∗ dutyTok ER (cell c 2 k) 0 false ∗ reached ER (cell c 2 k) 0 ∗ atPos ER (cell c 2 k) 0 ∅ 0))

theorem stage_start (k : Fin 8) :
    iprop((((full s c k 0 ∗ ptsAny 2 c k) ∗ toks c k) ∗ outAny c (ownQ c k) ∗ outAny c (othQ c k))
      ∗ (ptsAny 1 (yN c) k ∗ reached ER (cell (yN c) 1 k) 0) ∗ (ptsAny 3 (xN c) k ∗ reached ER (cell (xN c) 3 k) 0)) ⊢ stage s c k 0 := by
  simp only [stage]
  unfold toks snd
  iintro ⟨⟨⟨⟨H0, H2⟩, W1, W3, ⟨T1, T0, R0, A0⟩, ⟨T3, T2, R2, A2⟩⟩, O1, O2⟩, ⟨P1, R1⟩, ⟨P3, R3⟩⟩
  isplitl [H0]; · iexact H0
  isplitl [P1 R1 T1 T0 R0 A0]
  · isplitl [P1]; · iexact P1
    isplitl [R1]; · iexact R1
    isplitl [T1]; · iexact T1
    isplitl [T0]; · iexact T0
    isplitl [R0]; · iexact R0
    iexact A0
  isplitl [W1]; · iexact W1
  isplitl [H2]; · iexact H2
  isplitl [P3 R3 T3 T2 R2 A2]
  · isplitl [P3]; · iexact P3
    isplitl [R3]; · iexact R3
    isplitl [T3]; · iexact T3
    isplitl [T2]; · iexact T2
    isplitl [R2]; · iexact R2
    iexact A2
  isplitl [W3]; · iexact W3
  isplitl [O1]; · iexact O1
  iexact O2

theorem stages_start :
    iprop(((((bigSep Finset.univ fun k => full s c k 0) ∗ bigSep Finset.univ fun k => ptsAny 2 c k) ∗ bigSep Finset.univ fun k => toks c k)
        ∗ (bigSep Finset.univ fun k => outAny c (ownQ c k)) ∗ bigSep Finset.univ fun k => outAny c (othQ c k))
      ∗ offer 1 (yN c) ∗ offer 3 (xN c)) ⊢ bigSep Finset.univ fun k => stage s c k 0 := by
  unfold offer
  rw [← bigSep_sep', ← bigSep_sep', ← bigSep_sep', ← bigSep_sep', ← bigSep_sep', ← bigSep_sep']
  exact bigSep_mono fun k _ => stage_start s c k

/-- What the body is run with. -/
def opened : sProp 𝕄 :=
  iprop(invs s K ∗ levAts L lv ∗ atPos ER (barCell c) 0 ∅ 0 ∗ cred (tallyAt (barCell c) () 2)
    ∗ dutyTok ER (barCell (yN c)) 0 false ∗ reached ER (barCell (yN c)) 0
    ∗ dutyTok ER (barCell (xN c)) 0 true ∗ reached ER (barCell (xN c)) 0
    ∗ (bigSep Finset.univ fun k => reached ER (cell c 1 k) 0) ∗ (bigSep Finset.univ fun k => reached ER (cell c 3 k) 0)
    ∗ bigSep Finset.univ fun k => toks c k)

def bodyPre : sProp 𝕄 :=
  iprop(opened s K c ∗ psPts s c ∗ plPts s c ∗ gPts s c
    ∗ (∃ f : Buf (Elt F) (outM.view.loc (c : Thread nD τ)), (outM.view.loc (c : Thread nD τ)) ↦{fullShare} f)
    ∗ bufAny 1 c ∗ bufAny 2 c ∗ bufAny 3 c ∗ ∃ W, owes (c : Thread nD τ) (O₀ c) W)

/-- A step made with something kept aside. -/
theorem step_beside {α : Type} {p : Prog (TpuEff nD τ sig (Elt F) Λ₀ .tc) α} {P R : sProp 𝕄} {Q : α → sProp 𝕄}
    (h : P ⊢ run c p (fun a => iprop(R -∗ Q a))) : iprop(P ∗ R) ⊢ run c p Q := by
  iintro ⟨HP, HR⟩
  ihave H := h $$ HP
  ihave H' := (wp_frame_r frame (wpE (defs₀ (F := F)) 𝒱₀ (c : Thread nD τ) none) Set.univ (p := p) (R := R)) $$ [H HR]
  · isplitl [H]; · iexact H
    iexact HR
  iapply (wp_mono frame (wpE (defs₀ (F := F)) 𝒱₀ (c : Thread nD τ) none) Set.univ (p := p) (fun a => ?_)) $$ H'
  iintro ⟨H, HR⟩
  iapply H; iexact HR

theorem step_dev {α : Type} {P : sProp 𝕄} {Kt : Dev nD → Prog (TpuEff nD τ sig (Elt F) Λ₀ .tc) α} {Q : α → sProp 𝕄}
    (h : P ⊢ run c (Kt c) Q) : P ⊢ run c (Prog.lift .deviceId >>= Kt) Q := by
  show P ⊢ wp frame (wpE (defs₀ (F := F)) 𝒱₀ (c : Thread nD τ) none) Set.univ (.op .deviceId Kt) Q
  rw [wp_deviceId]; exact h

/-- A signal to a neighbour's barrier: it pays one of that cell's two duties. -/
theorem step_signal {α : Type} {p p' : Dev nD} {sem : Sem sig} (d : Bool) (hd : d ∈ (Rd s).duties (barCell p) 0) (hp : p' = p) (hsem : sem = barS)
    {O' O : CellTallies nD τ sig Unit} (hO : O' = O + tallyAt (barCell p) () 1) {P R : sProp 𝕄}
    {Kt : PUnit → Prog (TpuEff nD τ sig (Elt F) Λ₀ .tc) α} {Q : α → sProp 𝕄}
    (hP : P ⊢ iprop(invs s K ∗ (∃ W, owes (c : Thread nD τ) O' W) ∗ dutyTok ER (barCell p) 0 d ∗ (Rd s).payload (barCell p) 0 d
      ∗ reached ER (barCell p) 0 ∗ R))
    (h : iprop((∃ W, owes (c : Thread nD τ) O W) ∗ R) ⊢ run c (Kt ⟨⟩) Q) :
    P ⊢ run c (semSignalWord p' sem 1#32 >>= Kt) Q := by
  subst hp hsem
  show P ⊢ wp frame (wpE (defs₀ (F := F)) 𝒱₀ (c : Thread nD τ) none) Set.univ (.op (.semSignal (p' : Thread nD τ) barS ((1 : ℕ) : ℤ)) Kt) Q
  iintro HP
  ihave H := hP $$ HP
  icases H with ⟨#HI, ⟨%W, HO⟩, Ht, Hpay, #Hr, HR⟩
  iapply (Rounds.wp_signal 𝒱₀ ER (Rd s) (c : Thread nD τ) none (dst := (p' : Thread nD τ)) (sem := barS) (r := 0) (d := d) (κ := K (barCell p'))
      hd (amount_bar s p' d) () O hO) $$ [HO Ht Hpay]
  · isplitr; · iapply (inv_bar s K p'); iexact HI
    isplitl [HO]; · iexact HO
    isplitl [Ht]; · iexact Ht
    isplitl [Hpay]; · iexact Hpay
    iexact Hr
  iintro HO
  iapply h
  isplitl [HO]; · iexists W; iexact HO
  iexact HR

/-- What the device keeps through the opening. -/
def keep : sProp 𝕄 :=
  iprop(invs s K ∗ levAts L lv ∗ plPts s c ∗ gPts s c
    ∗ (((bigSep Finset.univ fun k => full s c k 0) ∗ bigSep Finset.univ fun k => ptsAny 2 c k) ∗ bigSep Finset.univ fun k => toks c k)
        ∗ (bigSep Finset.univ fun k => outAny c (ownQ c k)) ∗ bigSep Finset.univ fun k => outAny c (othQ c k))

/-- The wait at the barrier: both neighbours' buffers come with it. -/
theorem step_barrier {α : Type} {sem : Sem sig} (hsem : sem = barS) {Kt : PUnit → Prog (TpuEff nD τ sig (Elt F) Λ₀ .tc) α} {Q : α → sProp 𝕄}
    (h : iprop(Inv s K c (fun _ => 0) ∗ atPos ER (barCell c) 1 ∅ 0) ⊢ run c (Kt ⟨⟩) Q) :
    iprop((∃ W, owes (c : Thread nD τ) (owed c (fun _ => 0)) W) ∗ atPos ER (barCell c) 0 ∅ 0 ∗ cred (tallyAt (barCell c) () 2) ∗ keep s K c)
      ⊢ run c (semWaitWord sem 2#32 >>= Kt) Q := by
  subst hsem
  show _ ⊢ wp frame (wpE (defs₀ (F := F)) 𝒱₀ (c : Thread nD τ) none) Set.univ (.op (.semWait barS ((2 : ℕ) : ℤ)) Kt) Q
  unfold keep
  iintro ⟨⟨%W, HO⟩, HA, HC, #HI, #HL, Hp, Hg, Hb⟩
  iapply (Rounds.wp_wait_rest_token 𝒱₀ ER (Rd s) (c : Thread nD τ) none (κ := K (barCell c))
      (wpE_semWait_eq 𝒱₀ (c : Thread nD τ) none Set.univ) (Set.mem_univ _) () (O := owed c (fun _ => 0)) (W := W) (R := 0) (m := 0) (T := ∅)
      ((Nat.zero_add 2).trans (expect_bar s c).symm)) $$ [HC HO HA]
  · isplitr; · iapply (inv_bar s K c); iexact HI
    isplitl [HC]; · iexact HC
    isplitl [HO]; · iexact HO
    isplitr; · iapply (mayWait c (fun _ => 0) (.reg barS) 1 (le_refl _) ⟨.inl (by decide), .inl (by decide)⟩); iexact HL
    iexact HA
  iintro ⟨HO, HA, -, Hpay⟩
  ihave Hn := (Entails.of_eq (rest_bar s c)) $$ Hpay
  iapply h
  isplitr [HA]
  · unfold Inv
    isplitl [Hb Hn]
    · iapply (stages_start s c)
      isplitl [Hb]; · iexact Hb
      iexact Hn
    isplitl [HO]; · iexists _; iexact HO
    isplitl [Hp]; · iexact Hp
    isplitl [Hg]; · iexact Hg
    isplitr; · iexact HI
    iexact HL
  iexact HA

theorem part1 {Q : (Σ' (_ : Dev nD) (_ : BitVec 32) (_ : BitVec 32) (_ : BitVec 32) (_ : BitVec 32), BitVec 32) → sProp 𝕄}
    (h : ∀ v2 v5 v6 v7 w, iprop(Inv s K c ![1, 0, 0, 0, 0, 0, 0, 0] ∗ atPos ER (barCell c) 1 ∅ 0) ⊢ Q ⟨c, v2, v5, v6, v7, w⟩) :
    bodyPre s K c ⊢ run c (atB (k0_part1 (F := F))) Q := by
  rw [k0_part1_eq_skeleton]; unfold k0_part1_skel
  refine step_dev c ?_
  refine step_signal s K c (p := yN c) false (by rw [duties_bar]; decide) (Fin.ext (k0_dev1_eq c)) rfl
    (O' := O₀ c) (O := owed c (fun _ => 0) + tallyAt (barCell (xN c)) () 1) rfl
    (R := iprop(atPos ER (barCell c) 0 ∅ 0 ∗ cred (tallyAt (barCell c) () 2) ∗ keep s K c
      ∗ dutyTok ER (barCell (xN c)) 0 true ∗ offer 3 c ∗ reached ER (barCell (xN c)) 0)) ?_ ?_
  · rw [payload_bar_y, yN_yN]
    unfold bodyPre opened keep offer
    iintro ⟨⟨#HI, #HL, HA, HC, HtY, #HrY, HtX, #HrX, #H1, #H3, Ht⟩, Hps, Hpl, Hg, Hout, B1, B2, B3, HO⟩
    isplitr; · iexact HI
    isplitl [HO]; · iexact HO
    isplitl [HtY]; · iexact HtY
    isplitl [B1]
    · rw [bigSep_sep']; isplitl [B1]; · iapply (buf_split 1 c) $$ B1
      iexact H1
    isplitr; · iexact HrY
    isplitl [HA]; · iexact HA
    isplitl [HC]; · iexact HC
    isplitr [HtX B3]
    · isplitr; · iexact HI
      isplitr; · iexact HL
      isplitl [Hpl]; · iexact Hpl
      isplitl [Hg]; · iexact Hg
      isplitr [Hout]
      · isplitr [Ht]
        · isplitl [Hps]; · iapply (ps_split s c) $$ Hps
          iapply (buf_split 2 c) $$ B2
        iexact Ht
      iapply (out_split c) $$ Hout
    isplitl [HtX]; · iexact HtX
    isplitl [B3]
    · rw [bigSep_sep']; isplitl [B3]; · iapply (buf_split 3 c) $$ B3
      iexact H3
    iexact HrX
  refine step_signal s K c (p := xN c) true (by rw [duties_bar]; decide) (Fin.ext ((k0_dev2_eq c).trans (dev_x c))) rfl
    (O' := owed c (fun _ => 0) + tallyAt (barCell (xN c)) () 1) (O := owed c (fun _ => 0)) rfl
    (R := iprop(atPos ER (barCell c) 0 ∅ 0 ∗ cred (tallyAt (barCell c) () 2) ∗ keep s K c)) ?_ ?_
  · rw [payload_bar_x, xN_xN]
    iintro ⟨HO, HA, HC, Hk, Ht, Hof, #Hr⟩
    ihave Hk' := (Entails.of_eq (show keep s K c = _ from rfl)) $$ Hk
    unfold keep
    icases Hk' with ⟨#HI, Hk⟩
    isplitr; · iexact HI
    isplitl [HO]; · iexact HO
    isplitl [Ht]; · iexact Ht
    isplitl [Hof]; · iexact Hof
    isplitr; · iexact Hr
    isplitl [HA]; · iexact HA
    isplitl [HC]; · iexact HC
    isplitr; · iexact HI
    iexact Hk
  refine step_barrier s K c rfl ?_
  refine step_beside c ?_
  refine y_send s K c 0 rfl (Fin.ext (k0_dev3_eq c)) rfl rfl rfl rfl ?_
  refine step_ret c (at_stages s K c (f' := ![1, 0, 0, 0, 0, 0, 0, 0]) (by decide) ?_)
  iintro HI HA
  iapply (h _ _ _ _ _)
  isplitl [HI]; · iexact HI
  iexact HA

/-! ## The end -/

theorem inv_of {g : GSem nD τ sig} (hg : g ∈ bars ∪ cells) : invs s K ⊢ cellInv ER (Rd s) (K g) g := bigSep_elim hg
theorem close_cell {g : GSem nD τ sig} (hg : g ∈ bars ∪ cells) : iprop(invs s K ∗ atPos ER g 1 ∅ 0) ⊢ (|={Set.univ}=> semVal g 0 : sProp 𝕄) := by
  iintro ⟨HI, HA⟩
  iapply (Rounds.cell_close ER (Rd s) (Set.mem_univ (K g)) id (duties_later s g))
  isplitl [HI]; · iapply (inv_of s K hg) $$ HI
  iexact HA

/-- The four counters of chunk `k`, at zero. -/
def zeros (k : Fin 8) : sProp 𝕄 := bigSep Finset.univ fun a : Fin 4 => semVal (cell c a k) 0

theorem zeros_eq (k : Fin 8) : zeros (F := F) c k
    = iprop(semVal (cell c 0 k) 0 ∗ semVal (cell c 1 k) 0 ∗ semVal (cell c 2 k) 0 ∗ semVal (cell c 3 k) 0) := by
  unfold zeros
  rw [show (Finset.univ : Finset (Fin 4)) = {0, 1, 2, 3} from by decide, bigSep_insert (by decide), bigSep_insert (by decide), bigSep_insert (by decide),
    bigSep_singleton]
  rfl

theorem stage_end (k : Fin 8) : iprop(invs s K ∗ stage s c k 9)
    ⊢ (|={Set.univ}=> (((zeros c k ∗ full s c k 0) ∗ ptsAny 1 c k ∗ ptsAny 2 c k ∗ ptsAny 3 c k) ∗ ownDone s c k ∗ othDone s c k) : sProp 𝕄) := by
  simp only [stage]
  unfold got
  rw [zeros_eq]
  iintro ⟨#HI, ⟨P0, A0⟩, ⟨P1, A1⟩, ⟨P2, A2⟩, ⟨P3, A3⟩, H1, H2⟩
  imod (close_cell s K (cell_mem c 0 k)) $$ [A0] with Z0
  · isplitr; · iexact HI
    iexact A0
  imod (close_cell s K (cell_mem c 1 k)) $$ [A1] with Z1
  · isplitr; · iexact HI
    iexact A1
  imod (close_cell s K (cell_mem c 2 k)) $$ [A2] with Z2
  · isplitr; · iexact HI
    iexact A2
  imod (close_cell s K (cell_mem c 3 k)) $$ [A3] with Z3
  · isplitr; · iexact HI
    iexact A3
  imodintro
  unfold full ptsAny
  isplitr [H1 H2]
  · isplitl [P0 Z0 Z1 Z2 Z3]
    · isplitr [P0]
      · isplitl [Z0]; · iexact Z0
        isplitl [Z1]; · iexact Z1
        isplitl [Z2]; · iexact Z2
        iexact Z3
      iexact P0
    isplitl [P1]; · iexists _; iexact P1
    isplitl [P2]; · iexists _; iexact P2
    iexists _; iexact P3
  isplitl [H1]; · iexact H1
  iexact H2

/-- What the body leaves. -/
def bodyPost : sProp 𝕄 :=
  iprop(semVal (barCell c) 0 ∗ (bigSep Finset.univ fun k => zeros c k) ∗ psPts s c ∗ plPts s c ∗ gPts s c ∗ outPts s c
    ∗ bufAny 1 c ∗ bufAny 2 c ∗ bufAny 3 c ∗ ∃ W, owes (c : Thread nD τ) (0 : CellTallies nD τ sig Unit) W)

theorem body_end : iprop(Inv s K c ![9, 9, 9, 9, 9, 9, 9, 9] ∗ atPos ER (barCell c) 1 ∅ 0) ⊢ (|={Set.univ}=> bodyPost s c : sProp 𝕄) := by
  refine (sep_mono_left (at_stages s K c (f' := fun _ => 9) (by decide) .rfl)).trans ?_
  have hs : iprop(invs s K ∗ bigSep Finset.univ fun k => stage s c k 9)
      ⊢ (|={Set.univ}=> ((((bigSep Finset.univ fun k => zeros c k) ∗ bigSep Finset.univ fun k => full s c k 0)
        ∗ (bigSep Finset.univ fun k => ptsAny 1 c k) ∗ (bigSep Finset.univ fun k => ptsAny 2 c k) ∗ bigSep Finset.univ fun k => ptsAny 3 c k)
        ∗ (bigSep Finset.univ fun k => ownDone s c k) ∗ bigSep Finset.univ fun k => othDone s c k) : sProp 𝕄) := by
    rw [← bigSep_sep', ← bigSep_sep', ← bigSep_sep', ← bigSep_sep', ← bigSep_sep', ← bigSep_sep']
    exact (bigSep_with_persistent fun k _ => stage_end s K c k).trans (bigSep_fupd _ _)
  unfold Inv bodyPost
  rw [owed_zero c (fun _ => 9) (fun _ => by decide)]
  iintro ⟨⟨Hs, HO, Hp, Hg, #HI, -⟩, HA⟩
  imod (close_cell s K (bar_mem c)) $$ [HA] with Zb
  · isplitr; · iexact HI
    iexact HA
  imod hs $$ [Hs] with ⟨⟨⟨Hz, H0⟩, H1, H2, H3⟩, Ho⟩
  · isplitr; · iexact HI
    iexact Hs
  imodintro
  isplitl [Zb]; · iexact Zb
  isplitl [Hz]; · iexact Hz
  isplitl [H0]; · iapply (ps_join s c) $$ H0
  isplitl [Hp]; · iexact Hp
  isplitl [Hg]; · iexact Hg
  isplitl [Ho]; · iapply (out_join s c) $$ Ho
  isplitl [H1]; · iapply (buf_join 1 c (s.ps c)) $$ H1
  isplitl [H2]; · iapply (buf_join 2 c (s.ps c)) $$ H2
  isplitl [H3]; · iapply (buf_join 3 c (s.ps c)) $$ H3
  iexact HO

/-- The whole body. -/
theorem bodyRun {Q : PUnit → sProp 𝕄} (h : bodyPost s c ⊢ Q ⟨⟩) : bodyPre s K c ⊢ run c (body0 (F := F)) Q := by
  refine BI.Entails.trans ?_ (wp_fupd frame (wpE (defs₀ (F := F)) 𝒱₀ (c : Thread nD τ) none) Set.univ (body0 (F := F)) Q)
  unfold body0 atB
  rw [cc0_body_eq_skeleton]; unfold cc0_body_skel
  refine step_bind c (part1 s K c fun v2 v5 v6 v7 w => step_beside c ?_)
  dsimp only
  refine step_bind c (part2 s K c _ _ _ ?_)
  try dsimp only
  refine step_bind c (part3 s K c _ _ _ ?_)
  try dsimp only
  refine step_bind c (part4 s K c _ _ _ _ _ ?_)
  try dsimp only
  refine step_bind c (part5 s K c _ _ ?_)
  try dsimp only
  refine step_bind c (part6 s K c _ _ _ ?_)
  try dsimp only
  refine step_bind c (part7 s K c _ _ _ _ ?_)
  try dsimp only
  refine step_bind c (part8 s K c _ _ _ _ ?_)
  try dsimp only
  refine step_bind c (part9 s K c _ _ _ _ ?_)
  try dsimp only
  refine step_bind c (part10 s K c _ _ _ ?_)
  try dsimp only
  refine step_bind c (part11 s K c _ _ _ _ ?_)
  try dsimp only
  refine step_bind c (part12 s K c _ _ _ ?_)
  try dsimp only
  refine step_bind c (part13 s K c _ _ _ _ _ ?_)
  try dsimp only
  refine step_bind c (part14 s K c _ _ _ ?_)
  try dsimp only
  refine step_bind c (part15 s K c _ _ _ _ _ ?_)
  try dsimp only
  refine step_bind c (part16 s K c _ _ _ _ ?_)
  try dsimp only
  refine step_bind c (part17 s K c _ _ _ ?_)
  try dsimp only
  refine step_bind c (part18 s K c _ _ _ ?_)
  try dsimp only
  refine step_bind c (part19 s K c _ _ _ ?_)
  try dsimp only
  refine step_bind c (part20 s K c _ _ _ ?_)
  try dsimp only
  refine step_bind c (part21 s K c _ _ _ _ ?_)
  try dsimp only
  refine step_bind c (part22 s K c ?_)
  try dsimp only
  refine step_bind c (part23 s K c ?_)
  try dsimp only
  refine step_bind c (part24 s K c ?_)
  try dsimp only
  refine sy_wait s K c 7 rfl rfl (credit_eq 0 7) ?_
  refine sx_wait s K c 7 rfl rfl (credit_eq 2 7) ?_
  refine step_ret c (at_stages s K c (f' := ![9, 9, 9, 9, 9, 9, 9, 9]) (by decide) ?_)
  iintro HI HA
  imod (body_end s K c) $$ [HI HA] with H
  · isplitl [HI]; · iexact HI
    iexact HA
  imodintro
  iapply h $$ H

end Cert.KernelIdeal.Talk

end
-- ==== Proof.Ideal.Region.lean ====
/- The pallas_call as a region of the program: what it starts from, what it takes, and what it gives back. -/
module

public import proofs.«01_k».proof.Proof.Ideal.Body
public import proofs.«01_k».proof.Proof.Gen.KernelIdeal.Launch
public import proofs.«01_k».proof.Proof.Gen.KernelIdeal.Regions
public import Idealize.ShloMosaic.Lib.Pipeline.ValueKit.Geometry

@[expose] public section

noncomputable section

namespace Cert.KernelIdeal.Talk

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg BodyObligation cellOf)
open Cert.KernelIdeal Cert.KernelIdeal.Gen

variable {F : FTy → Type} [FloatOps F]

local notation "𝕄" => MT nD τ sig Unit (Elt F) ℕ UU ℕ

variable (m : (ℓ : Loc nD τ sig) → Buf (Elt F) ℓ)

/-- What the exchange starts with: the host's two slices and the scale. -/
def start : Start F := ⟨fun c => V1 m c main_v20, fun c => V1 m c main_v24, fun c => V1 m c main_v25⟩

/-- The counters of the kernel's own semaphores, chunk by chunk. -/
def osem (p : Fin 8 × Fin 4) : SemLoc sig := .dma (sm p.2 p.1)

theorem ownSems_eq (c : Dev nD) : (Pipeline.ownSems0 osem c : sProp 𝕄) = bigSep Finset.univ fun k => zeros c k := by
  show (bigSep Finset.univ fun p : Fin 8 × Fin 4 => (semVal (cell c p.2 p.1) 0 : sProp 𝕄)) = _
  rw [bigSep_univ_prod]
  rfl

/-- What the region holds beside its windows, before and after. -/
def phi0 (c : Dev nD) : sProp 𝕄 :=
  iprop((∃ K, opened (start m) K c) ∗ (bufAny 1 c ∗ bufAny 2 c ∗ bufAny 3 c) ∗ ∃ r, prngReg c r)
def phi1 (c : Dev nD) : sProp 𝕄 :=
  iprop((semVal (barCell c) 0 ∗ bigSep Finset.univ fun k => zeros c k) ∗ (bufAny (F := F) 1 c ∗ bufAny 2 c ∗ bufAny 3 c) ∗ ∃ r, prngReg c r)

def dat0 (c : Dev nD) : Dat τ (Elt F) Unit ℕ UU ℕ cfg0 c where
  A w := V1 m c (Pipeline.arrRef spec0 w)
  after w _ := match w with
    | ⟨0, _⟩ => (start m).ps c
    | ⟨1, _⟩ => (start m).pl c
    | ⟨2, _⟩ => (start m).g c
    | ⟨3, _⟩ => OUT (start m) c
  Φ t := if t.val = 0 then phi0 m c else phi1 c
  q _ := fullShare
  owed t := if t.val = 0 then O₀ c else 0

theorem owes_in (c : Dev nD) (t : Fin (cfg0.N + 1)) (O : CellTallies nD τ sig Unit) (h : (dat0 m c).owed t = O) :
    (dat0 m c).owesAt () t ⊢ (iprop(∃ W, owes (c : Thread nD τ) O W) : sProp 𝕄) := by
  unfold Dat.owesAt Pipeline.owesWithin; rw [h]
  iintro ⟨%W, -, H⟩
  iexists W; iexact H
theorem owes_out (c : Dev nD) (t : Fin (cfg0.N + 1)) (O : CellTallies nD τ sig Unit) (h : (dat0 m c).owed t = O) :
    (iprop(∃ W, owes (c : Thread nD τ) O W) : sProp 𝕄) ⊢ (dat0 m c).owesAt () t := by
  unfold Dat.owesAt Pipeline.owesWithin Dat.bound; rw [h, show (dat0 m c).recorded t = Set.univ from rfl]
  iintro ⟨%W, H⟩
  iexists W
  isplitr; · ipureintro; exact fun _ _ => Or.inl trivial
  iexact H

theorem before_0 (c : Dev nD) (d) : (dat0 m c).before 0 t0_0 d = (start m).ps c := by
  unfold Dat.before; rw [if_pos (by decide)]
  funext x
  show V1 m c main_v20 (((cfg0.win 0).blk t0_0).view.emb x) = V1 m c main_v20 x
  congr 1; funext a; exact Fin.ext (by blk_simp; exact (congrArg (· + (x a : ℕ)) (Nat.zero_mul _)).trans (Nat.zero_add _))
theorem before_1 (c : Dev nD) (d) : (dat0 m c).before 1 t0_0 d = (start m).pl c := by
  unfold Dat.before; rw [if_pos (by decide)]
  funext x
  show V1 m c main_v24 (((cfg0.win 1).blk t0_0).view.emb x) = V1 m c main_v24 x
  congr 1; funext a; exact Fin.ext (by blk_simp; exact (congrArg (· + (x a : ℕ)) (Nat.zero_mul _)).trans (Nat.zero_add _))
theorem before_2 (c : Dev nD) (d) : (dat0 m c).before 2 t0_0 d = (start m).g c := by
  unfold Dat.before; rw [if_pos (by decide)]
  funext x
  show V1 m c main_v25 (((cfg0.win 2).blk t0_0).view.emb x) = V1 m c main_v25 x
  congr 1; funext a; exact Fin.ext (by blk_simp; exact (congrArg (· + (x a : ℕ)) (Nat.zero_mul _)).trans (Nat.zero_add _))

theorem out_final (c : Dev nD) : (dat0 m c).arrAt 3 cfg0.N = OUT (start m) c := by
  refine Dat.arrAt_eq_of_after_last (dat0 m c) 3 t0_0 (by decide +kernel) _ (fun j => ?_)
  blk_simp
  rfl

theorem owns_buf (c : Dev nD) (b : Ref sig .tc) (X : b.ty.Contents (Elt F)) :
    (owns (Ix := Unit) (Name := ℕ) (U := UU) (Lvl := ℕ) (c : Thread nD τ) (Memref.whole b) fullShare X : sProp 𝕄)
      = iprop(((c : Thread nD τ).loc b) ↦{fullShare} X) := owns_whole (c : Thread nD τ) b fullShare X

set_option maxRecDepth 4000 in
theorem body (c : Dev nD) : BodyObligation (dat0 (F := F) m c) (defs₀ (F := F)) 𝒱₀ () Set.univ := fun t => by
  obtain rfl := fin_N0 t
  rw [bigSep_W0, bigSep_W0]
  rw [show (dat0 m c).Φ t0_0.castSucc = phi0 m c from rfl, show (dat0 m c).Φ t0_0.succ = phi1 c from rfl]
  simp only [before_0, before_1, before_2]
  unfold phi0 phi1
  iintro ⟨⟨⟨%K, HK⟩, ⟨B1, B2, B3⟩, Hr⟩, HO, ⟨%d0, H0⟩, ⟨%d1, H1⟩, ⟨%d2, H2⟩, ⟨%d3, H3⟩⟩
  ihave HO' := (owes_in m c t0_0.castSucc (O₀ c) rfl) $$ HO
  ihave H0' := (Entails.of_eq (owns_buf c cc0_stg0_0 ((start m).ps c))) $$ H0
  ihave H1' := (Entails.of_eq (owns_buf c cc0_stg1_0 ((start m).pl c))) $$ H1
  ihave H2' := (Entails.of_eq (owns_buf c cc0_stg2_0 ((start m).g c))) $$ H2
  ihave H3' := (Entails.of_eq (owns_buf c cc0_stg3_0 _)) $$ H3
  iapply (step_beside (F := F) c (R := iprop(∃ r, prngReg c r)) (bodyRun (start m) K c ?_)) $$ [HK B1 B2 B3 Hr HO' H0' H1' H2' H3']
  case _ =>
    unfold bodyPost psPts plPts gPts outPts
    iintro ⟨Hb, Hz, P0, P1, P2, P3, B1, B2, B3, HO⟩ Hr
    isplitl [Hb Hz B1 B2 B3 Hr]
    · isplitl [Hb Hz]
      · isplitl [Hb]; · iexact Hb
        iexact Hz
      isplitl [B1 B2 B3]
      · isplitl [B1]; · iexact B1
        isplitl [B2]; · iexact B2
        iexact B3
      iexact Hr
    isplitl [HO]; · iapply (owes_out m c t0_0.succ 0 rfl) $$ HO
    isplitl [P0]; · iapply (Entails.of_eq (owns_buf c cc0_stg0_0 ((start m).ps c)).symm) $$ P0
    isplitl [P1]; · iapply (Entails.of_eq (owns_buf c cc0_stg1_0 ((start m).pl c)).symm) $$ P1
    isplitl [P2]; · iapply (Entails.of_eq (owns_buf c cc0_stg2_0 ((start m).g c)).symm) $$ P2
    iapply (Entails.of_eq (owns_buf c cc0_stg3_0 (OUT (start m) c)).symm) $$ P3
  isplitr [Hr]
  · unfold bodyPre psPts plPts gPts
    isplitl [HK]; · iexact HK
    isplitl [H0']; · iexact H0'
    isplitl [H1']; · iexact H1'
    isplitl [H2']; · iexact H2'
    isplitl [H3']; · iexists _; iexact H3'
    isplitl [B1]; · iexact B1
    isplitl [B2]; · iexact B2
    isplitl [B3]; · iexact B3
    iexact HO'
  iexact Hr

end Cert.KernelIdeal.Talk

end
-- ==== Proof.Ideal.Deal.lean ====
/- What the launch deals to the devices: the cells, the tokens of the duties each pays, the credits of the waits each makes. -/
module

public import proofs.«01_k».proof.Proof.Ideal.Body

@[expose] public section

noncomputable section

namespace Cert.KernelIdeal.Talk

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg BodyObligation cellOf)
open Cert.KernelIdeal Cert.KernelIdeal.Gen

variable {F : FTy → Type} [FloatOps F]

local notation "𝕄" => MT nD τ sig Unit (Elt F) ℕ UU ℕ

/-! ## Opening the chunks' cells when the region starts -/

section Open

variable (s : Start F) (K : GSem nD τ sig → ℕ) (c : Dev nD)

theorem bigSep_four {M : Type} [URA M] (Φ : Fin 4 → sProp M) : bigSep Finset.univ Φ = iprop(Φ 0 ∗ Φ 1 ∗ Φ 2 ∗ Φ 3) :=
  bigSep_univ_eq_bigSepL [(0 : Fin 4), 1, 2, 3] (by decide) (by decide) Φ

/-- The tokens of the duties a device pays for chunk `k`. -/
def pays (k : Fin 8) : sProp 𝕄 :=
  iprop(dutyTok ER (cell c 0 k) 0 false ∗ dutyTok ER (cell (yN c) 1 k) 0 false ∗ dutyTok ER (cell c 2 k) 0 false ∗ dutyTok ER (cell (xN c) 3 k) 0 false)

/-- The credits of the waits for chunk `k`'s two arrivals. -/
def arrive (k : Fin 8) : sProp 𝕄 := iprop(cred (tallyAt (cell c 1 k) () N) ∗ cred (tallyAt (cell c 3 k) () N))

/-- What the launch leaves with device `c`, beside what every device may read. -/
def deal : sProp 𝕄 :=
  iprop(atPos ER (barCell c) 0 ∅ 0 ∗ (bigSep Finset.univ fun k : Fin 8 => bigSep Finset.univ fun a : Fin 4 => openTok ER (cell c a k))
    ∗ (dutyTok ER (barCell (yN c)) 0 false ∗ dutyTok ER (barCell (xN c)) 0 true) ∗ bigSep Finset.univ fun k => pays c k)

/-- What every device may read. -/
def facts : sProp 𝕄 := iprop(invs s K ∗ bigSep bars fun g => reached ER g 0)
instance facts_persistent : BI.Persistent (facts s K) := by unfold facts; infer_instance

theorem reached_bar : (bigSep bars fun g => (reached ER g 0 : sProp 𝕄)) ⊢ reached ER (barCell c) 0 :=
  bigSep_elim (Finset.mem_map.mpr ⟨c, Finset.mem_univ _, rfl⟩)

/-- One cell opened. -/
theorem open_cell (a : Fin 4) (k : Fin 8) : iprop(invs s K ∗ (openTok ER (cell c a k) ∗ semVal (cell c a k) 0))
    ⊢ (|={Set.univ}=> (atPos ER (cell c a k) 0 ∅ 0 ∗ reached ER (cell c a k) 0) : sProp 𝕄) := by
  iintro ⟨#HI, Ho, Hs⟩
  iapply (Rounds.cell_open ER (Rd s) (g := cell c a k) (Set.mem_univ (K (cell c a k))))
  isplitr; · iapply (inv_cell s K c a k); iexact HI
  isplitl [Ho]; · iexact Ho
  iexact Hs

/-- A chunk's four cells opened. -/
theorem open_chunk (k : Fin 8) :
    iprop(invs s K ∗ ((bigSep Finset.univ fun a : Fin 4 => openTok ER (cell c a k)) ∗ zeros c k))
    ⊢ (|={Set.univ}=> (bigSep Finset.univ fun a : Fin 4 => iprop(atPos ER (cell c a k) 0 ∅ 0 ∗ reached ER (cell c a k) 0)) : sProp 𝕄) := by
  unfold zeros
  rw [← bigSep_sep']
  exact (bigSep_with_persistent fun a _ => open_cell s K c a k).trans (bigSep_fupd _ _)

theorem open_all :
    iprop(invs s K ∗ ((bigSep Finset.univ fun k : Fin 8 => bigSep Finset.univ fun a : Fin 4 => openTok ER (cell c a k)) ∗ bigSep Finset.univ fun k => zeros c k))
    ⊢ (|={Set.univ}=> (bigSep Finset.univ fun k : Fin 8 => bigSep Finset.univ fun a : Fin 4 =>
        iprop(atPos ER (cell c a k) 0 ∅ 0 ∗ reached ER (cell c a k) 0)) : sProp 𝕄) := by
  rw [← bigSep_sep']
  exact (bigSep_with_persistent fun k _ => open_chunk s K c k).trans (bigSep_fupd _ _)

/-- A chunk's tokens from its opened cells, its duties and its credits. -/
theorem toks_of (k : Fin 8) :
    iprop((bigSep Finset.univ fun a : Fin 4 => iprop(atPos ER (cell c a k) 0 ∅ 0 ∗ reached ER (cell c a k) 0)) ∗ pays c k ∗ arrive c k)
    ⊢ (iprop(reached ER (cell c 1 k) 0 ∗ reached ER (cell c 3 k) 0 ∗ toks c k) : sProp 𝕄) := by
  rw [bigSep_four]
  unfold pays arrive toks wt
  iintro ⟨⟨⟨A0, R0⟩, ⟨A1, R1⟩, ⟨A2, R2⟩, ⟨A3, R3⟩⟩, ⟨T0, T1, T2, T3⟩, ⟨C1, C3⟩⟩
  isplitl [R1]; · iexact R1
  isplitl [R3]; · iexact R3
  isplitl [C1 A1]
  · isplitl [C1]; · iexact C1
    iexact A1
  isplitl [C3 A3]
  · isplitl [C3]; · iexact C3
    iexact A3
  isplitl [T1 T0 R0 A0]
  · isplitl [T1]; · iexact T1
    isplitl [T0]; · iexact T0
    isplitl [R0]; · iexact R0
    iexact A0
  isplitl [T3]; · iexact T3
  isplitl [T2]; · iexact T2
  isplitl [R2]; · iexact R2
  iexact A2

/-- What the region takes in: the facts, the device's own deal, its credits. -/
def Tk : sProp 𝕄 :=
  iprop((∃ K, facts s K ∗ deal c) ∗ cred (tallyAt (barCell c) () 2) ∗ bigSep Finset.univ fun k => arrive c k)

theorem hopen : iprop(Tk s c ∗ (bigSep Finset.univ fun k => zeros c k) ∗ levAts L lv) ⊢ (|={Set.univ}=> ∃ K, opened s K c : sProp 𝕄) := by
  unfold Tk facts deal
  iintro ⟨⟨⟨%K, ⟨#HI, #HR⟩, HA, Ho, ⟨Ty, Tx⟩, Hp⟩, HC, Ha⟩, Hz, #HL⟩
  imod (open_all s K c) $$ [Ho Hz] with Hc
  · isplitr; · iexact HI
    isplitl [Ho]; · iexact Ho
    iexact Hz
  imodintro
  iexists K
  ihave Ht := (show iprop((bigSep Finset.univ fun k : Fin 8 => bigSep Finset.univ fun a : Fin 4 =>
        iprop(atPos ER (cell c a k) 0 ∅ 0 ∗ reached ER (cell c a k) 0)) ∗ (bigSep Finset.univ fun k => pays c k) ∗ bigSep Finset.univ fun k => arrive c k)
      ⊢ (iprop((bigSep Finset.univ fun k => reached ER (cell c 1 k) 0) ∗ (bigSep Finset.univ fun k => reached ER (cell c 3 k) 0)
        ∗ bigSep Finset.univ fun k => toks c k) : sProp 𝕄) from by
      rw [← bigSep_sep', ← bigSep_sep', ← bigSep_sep', ← bigSep_sep']
      exact bigSep_mono fun k _ => toks_of c k) $$ [Hc Hp Ha]
  · isplitl [Hc]; · iexact Hc
    isplitl [Hp]; · iexact Hp
    iexact Ha
  icases Ht with ⟨R1, R3, Ht⟩
  unfold opened
  isplitr; · iexact HI
  isplitr; · iexact HL
  isplitl [HA]; · iexact HA
  isplitl [HC]; · iexact HC
  isplitl [Ty]; · iexact Ty
  isplitr; · iapply (reached_bar (F := F) (yN c)); iexact HR
  isplitl [Tx]; · iexact Tx
  isplitr; · iapply (reached_bar (F := F) (xN c)); iexact HR
  isplitl [R1]; · iexact R1
  isplitl [R3]; · iexact R3
  iexact Ht

end Open

/-! ## The tokens, from the cells they name to the devices that pay -/

def barTok : Dev nD × Bool ↪ GSem nD τ sig × ℕ × Bool :=
  ⟨fun p => (barCell p.1, 0, p.2), fun p q h => Prod.ext (barCell_inj (congrArg Prod.fst h)) (congrArg (fun t : GSem nD τ sig × ℕ × Bool => t.2.2) h)⟩
def cellTok : Dev nD × Fin 4 × Fin 8 ↪ GSem nD τ sig × ℕ × Bool :=
  ⟨fun p => (cell p.1 p.2.1 p.2.2, 0, false), fun p q h => cell_inj (congrArg Prod.fst h)⟩

theorem bar_ne_cell (c c' : Dev nD) (a : Fin 4) (k : Fin 8) : barCell c ≠ cell c' a k := fun h => by
  have := congrArg (fun g : GSem nD τ sig => g.2) h
  cases this

def allToks : Finset (GSem nD τ sig × ℕ × Bool) := Finset.univ.map barTok ∪ Finset.univ.map cellTok

theorem toks_disjoint : Disjoint (Finset.univ.map barTok) (Finset.univ.map cellTok) := by
  rw [Finset.disjoint_left]
  intro t h h'
  obtain ⟨p, -, rfl⟩ := Finset.mem_map.mp h
  obtain ⟨q, -, e⟩ := Finset.mem_map.mp h'
  exact bar_ne_cell _ _ _ _ (congrArg Prod.fst e).symm

theorem cells_disjoint : Disjoint bars cells := by
  rw [Finset.disjoint_left]
  intro t h h'
  obtain ⟨p, -, rfl⟩ := Finset.mem_map.mp h
  obtain ⟨q, -, e⟩ := Finset.mem_map.mp h'
  exact bar_ne_cell _ _ _ _ e.symm

theorem bigSep_two {M : Type} [URA M] (Φ : Bool → sProp M) : bigSep Finset.univ Φ = iprop(Φ false ∗ Φ true) :=
  bigSep_univ_eq_bigSepL [false, true] (by decide) (by decide) Φ

/-- Some of every device's belongings pass to its neighbours. -/
theorem pass_two (A B : Dev nD → sProp 𝕄) : (bigSep Finset.univ fun c => iprop(A c ∗ B c)) = bigSep Finset.univ fun c => iprop(A (yN c) ∗ B (xN c)) := by
  rw [bigSep_sep', bigSep_sep', bigSep_univ_equiv yEquiv A, bigSep_univ_equiv xEquiv B]; rfl
theorem pass_four (A B C D : Dev nD → sProp 𝕄) :
    (bigSep Finset.univ fun c => iprop(A c ∗ B c ∗ C c ∗ D c)) = bigSep Finset.univ fun c => iprop(A c ∗ B (yN c) ∗ C c ∗ D (xN c)) := by
  rw [bigSep_sep', bigSep_sep', bigSep_sep', bigSep_sep', bigSep_sep', bigSep_sep', bigSep_univ_equiv yEquiv B, bigSep_univ_equiv xEquiv D]; rfl

theorem toks_dealt : bigSep allToks (fun t => (dutyTok ER t.1 t.2.1 t.2.2 : sProp 𝕄))
    = bigSep Finset.univ fun c : Dev nD => iprop((dutyTok ER (barCell (yN c)) 0 false ∗ dutyTok ER (barCell (xN c)) 0 true) ∗ bigSep Finset.univ fun k => pays c k) := by
  unfold allToks
  rw [bigSep_union toks_disjoint, bigSep_sep', bigSep_map, bigSep_map, bigSep_univ_prod, bigSep_univ_prod]
  congr 1
  · rw [← pass_two (F := F) (fun c => dutyTok ER (barCell c) 0 false) (fun c => dutyTok ER (barCell c) 0 true)]
    exact bigSep_congr fun c _ => bigSep_two _
  · unfold pays
    have e (c : Dev nD) : (bigSep Finset.univ fun k : Fin 8 => iprop(dutyTok ER (cell c 0 k) 0 false ∗ dutyTok ER (cell (yN c) 1 k) 0 false
          ∗ dutyTok ER (cell c 2 k) 0 false ∗ dutyTok ER (cell (xN c) 3 k) 0 false) : sProp 𝕄)
        = iprop((bigSep Finset.univ fun k : Fin 8 => dutyTok ER (cell c 0 k) 0 false) ∗ (bigSep Finset.univ fun k : Fin 8 => dutyTok ER (cell (yN c) 1 k) 0 false)
          ∗ (bigSep Finset.univ fun k : Fin 8 => dutyTok ER (cell c 2 k) 0 false) ∗ bigSep Finset.univ fun k : Fin 8 => dutyTok ER (cell (xN c) 3 k) 0 false) := by
      rw [bigSep_sep', bigSep_sep', bigSep_sep']
    rw [bigSep_congr fun c _ => e c, ← pass_four (F := F) (fun c => bigSep Finset.univ fun k : Fin 8 => dutyTok ER (cell c 0 k) 0 false)
      (fun c => bigSep Finset.univ fun k : Fin 8 => dutyTok ER (cell c 1 k) 0 false)
      (fun c => bigSep Finset.univ fun k : Fin 8 => dutyTok ER (cell c 2 k) 0 false)
      (fun c => bigSep Finset.univ fun k : Fin 8 => dutyTok ER (cell c 3 k) 0 false)]
    exact bigSep_congr fun c _ => by rw [bigSep_univ_prod, bigSep_four]; rfl

/-! ## The credit each device is launched with -/

theorem tally_self (g g' : GSem nD τ sig) (n : ℕ) : (tallyAt g () n : CellTallies nD τ sig Unit) g' () = if g' = g then n else 0 := by
  rw [tallyAt_apply]
  by_cases h : g' = g
  · rw [if_pos h, if_pos ⟨h, rfl⟩]
  · rw [if_neg h, if_neg (fun h' => h h'.1)]

theorem sum_one (f : Fin 8 → CellTallies nD τ sig Unit) (g : GSem nD τ sig) (k : Fin 8) (n : ℕ) (h : ∀ j, f j g () = if j = k then n else 0) :
    (∑ j, f j) g () = n := by
  rw [Finset.sum_apply, Finsupp.finset_sum_apply, Finset.sum_congr rfl fun j _ => h j, Finset.sum_ite_eq' Finset.univ k fun _ => n, if_pos (Finset.mem_univ _)]
theorem sum_none (f : Fin 8 → CellTallies nD τ sig Unit) (g : GSem nD τ sig) (h : ∀ j, f j g () = 0) : (∑ j, f j) g () = 0 := by
  rw [Finset.sum_apply, Finsupp.finset_sum_apply, Finset.sum_eq_zero fun j _ => h j]

theorem owed_start (d : Dev nD) (g : GSem nD τ sig) : O₀ d g ()
    = ((∑ j : Fin 8, (tallyAt (cell (yN d) 1 j) () N : CellTallies nD τ sig Unit)) g () + (∑ j : Fin 8, (tallyAt (cell (xN d) 3 j) () N : CellTallies nD τ sig Unit)) g ())
      + (if g = barCell (xN d) then 1 else 0) + (if g = barCell (yN d) then 1 else 0) := by
  unfold O₀ owed
  rw [Pi.add_apply, Finsupp.add_apply, Pi.add_apply, Finsupp.add_apply, Pi.add_apply, Finsupp.add_apply, tally_self, tally_self]
  rfl

theorem yN_eq {c d : Dev nD} : c = yN d ↔ d = yN c := ⟨fun h => by rw [h, yN_yN], fun h => by rw [h, yN_yN]⟩
theorem xN_eq {c d : Dev nD} : c = xN d ↔ d = xN c := ⟨fun h => by rw [h, xN_xN], fun h => by rw [h, xN_xN]⟩

theorem cell_eq {c c' : Dev nD} {a a' : Fin 4} {k k' : Fin 8} : cell c a k = cell c' a' k' ↔ c = c' ∧ a = a' ∧ k = k' :=
  ⟨fun h => by
    have e := cell_inj (a₁ := (c, a, k)) (a₂ := (c', a', k')) h
    exact ⟨congrArg Prod.fst e, congrArg (fun p : Dev nD × Fin 4 × Fin 8 => p.2.1) e, congrArg (fun p : Dev nD × Fin 4 × Fin 8 => p.2.2) e⟩,
   fun ⟨h1, h2, h3⟩ => by rw [h1, h2, h3]⟩

theorem owed_bar (d c : Dev nD) : O₀ d (barCell c) () = (if d = xN c then 1 else 0) + (if d = yN c then 1 else 0) := by
  rw [owed_start, sum_none _ _ (fun j => by rw [tally_self, if_neg (bar_ne_cell _ _ _ _)]), sum_none _ _ (fun j => by rw [tally_self, if_neg (bar_ne_cell _ _ _ _)]),
    Nat.zero_add]
  congr 1
  · exact if_congr ⟨fun h => xN_eq.mp (barCell_inj h), fun h => congrArg barCell (xN_eq.mpr h)⟩ rfl rfl
  · exact if_congr ⟨fun h => yN_eq.mp (barCell_inj h), fun h => congrArg barCell (yN_eq.mpr h)⟩ rfl rfl

theorem owed_y1 (d c : Dev nD) (k : Fin 8) : O₀ d (cell c 1 k) () = if d = yN c then N else 0 := by
  rw [owed_start, if_neg (bar_ne_cell _ _ _ _).symm, if_neg (bar_ne_cell _ _ _ _).symm,
    sum_none (fun j => tallyAt (cell (xN d) 3 j) () N) _ (fun j => by rw [tally_self, if_neg (fun h => absurd (cell_eq.mp h).2.1 (by decide))])]
  simp only [Nat.add_zero]
  by_cases h : d = yN c
  · rw [if_pos h]
    refine sum_one _ _ k _ fun j => ?_
    rw [tally_self]
    exact if_congr ⟨fun e => (cell_eq.mp e).2.2.symm, fun e => cell_eq.mpr ⟨yN_eq.mpr h, rfl, e.symm⟩⟩ rfl rfl
  · rw [if_neg h]
    exact sum_none _ _ fun j => by rw [tally_self, if_neg (fun e => h (yN_eq.mp (cell_eq.mp e).1))]

theorem owed_x3 (d c : Dev nD) (k : Fin 8) : O₀ d (cell c 3 k) () = if d = xN c then N else 0 := by
  rw [owed_start, if_neg (bar_ne_cell _ _ _ _).symm, if_neg (bar_ne_cell _ _ _ _).symm,
    sum_none (fun j => tallyAt (cell (yN d) 1 j) () N) _ (fun j => by rw [tally_self, if_neg (fun h => absurd (cell_eq.mp h).2.1 (by decide))])]
  simp only [Nat.add_zero, Nat.zero_add]
  by_cases h : d = xN c
  · rw [if_pos h]
    refine sum_one _ _ k _ fun j => ?_
    rw [tally_self]
    exact if_congr ⟨fun e => (cell_eq.mp e).2.2.symm, fun e => cell_eq.mpr ⟨xN_eq.mpr h, rfl, e.symm⟩⟩ rfl rfl
  · rw [if_neg h]
    exact sum_none _ _ fun j => by rw [tally_self, if_neg (fun e => h (xN_eq.mp (cell_eq.mp e).1))]

theorem launched (g : GSem nD τ sig) (n : ℕ) (h : ∑ d : Dev nD, O₀ d g () = n) :
    tallyOn g (launchCredit (Pipeline.owing O₀) 0 g) = (tallyAt g () n : CellTallies nD τ sig Unit) := by
  unfold tallyAt; refine congrArg _ (Finsupp.ext fun u => ?_); cases u
  rw [Pipeline.launchCredit_owing, Finsupp.single_eq_same, h]

theorem launched_bar (c : Dev nD) : tallyOn (barCell c) (launchCredit (Pipeline.owing O₀) 0 (barCell c)) = (tallyAt (barCell c) () 2 : CellTallies nD τ sig Unit) :=
  launched _ _ (by
    rw [Finset.sum_congr rfl fun d _ => owed_bar d c, Finset.sum_add_distrib, Finset.sum_ite_eq' Finset.univ (xN c) fun _ => 1,
      Finset.sum_ite_eq' Finset.univ (yN c) fun _ => 1, if_pos (Finset.mem_univ _), if_pos (Finset.mem_univ _)])
theorem launched_y (c : Dev nD) (k : Fin 8) : tallyOn (cell c 1 k) (launchCredit (Pipeline.owing O₀) 0 (cell c 1 k)) = (tallyAt (cell c 1 k) () N : CellTallies nD τ sig Unit) :=
  launched _ _ (by rw [Finset.sum_congr rfl fun d _ => owed_y1 d c k, Finset.sum_ite_eq' Finset.univ (yN c) fun _ => N, if_pos (Finset.mem_univ _)])
theorem launched_x (c : Dev nD) (k : Fin 8) : tallyOn (cell c 3 k) (launchCredit (Pipeline.owing O₀) 0 (cell c 3 k)) = (tallyAt (cell c 3 k) () N : CellTallies nD τ sig Unit) :=
  launched _ _ (by rw [Finset.sum_congr rfl fun d _ => owed_x3 d c k, Finset.sum_ite_eq' Finset.univ (xN c) fun _ => N, if_pos (Finset.mem_univ _)])

def arrEmb : Fin 8 × Fin 2 ↪ SemLoc sig :=
  ⟨fun p => .dma (sm (if p.2 = 0 then 1 else 3) p.1), by decide⟩

theorem creds (c : Dev nD) : (Pipeline.launchCred O₀ c : sProp 𝕄)
    ⊢ iprop(cred (tallyAt (barCell c) () 2) ∗ bigSep Finset.univ fun k => arrive c k) := by
  unfold Pipeline.launchCred
  rw [bigSep_univ_at _ (SemLoc.reg barS), launched_bar]
  refine sep_mono_right ?_
  refine (bigSep_subset (s := Finset.univ.erase (SemLoc.reg barS)) (t := Finset.univ.map arrEmb) (fun q hq => ?_)).trans ?_
  · obtain ⟨p, -, rfl⟩ := Finset.mem_map.mp hq
    exact Finset.mem_erase.mpr ⟨(fun h => by cases h), Finset.mem_univ _⟩
  · rw [bigSep_map, bigSep_univ_prod]
    refine bigSep_mono fun k _ => ?_
    rw [bigSep_fin_two]
    unfold arrive
    rw [← launched_y, ← launched_x]
    exact BI.Entails.refl _

end Cert.KernelIdeal.Talk

end
-- ==== Proof.Ideal.Launch.lean ====
/- The launch: the region's record, and the run of the whole program on the four devices. -/
module

public import proofs.«01_k».proof.Proof.Ideal.Region
public import proofs.«01_k».proof.Proof.Ideal.Deal

@[expose] public section

noncomputable section

namespace Cert.KernelIdeal.Talk

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg BodyObligation cellOf)
open Cert.KernelIdeal Cert.KernelIdeal.Gen

variable {F : FTy → Type} [FloatOps F]

local notation "𝕄" => MT nD τ sig Unit (Elt F) ℕ UU ℕ

variable (m : (ℓ : Loc nD τ sig) → Buf (Elt F) ℓ) (ρ : Dev nD → PrngReg)

abbrev pdats : (p : Fin 1) → (c : Dev nD) → Dat τ (Elt F) Unit ℕ UU ℕ (Pipeline.pin (pcfgs (F := F)) adm p) c
  | 0 => dat0 m

/-- The valuation after the region: the result holds the exchanged and normalised rows. -/
def VEnd (c : Dev nD) : Valuation τ sig (Elt F) := Function.update (V1 m c) (Proc.devRef .tc main_v26) (OUT (start m) c)

def tied (c : Dev nD) : sProp 𝕄 := Tk (start m) c
def readied (c : Dev nD) : sProp 𝕄 := iprop(∃ K, opened (start m) K c)
def spent (c : Dev nD) : sProp 𝕄 := semVal (barCell c) 0

theorem unscoped_eq : ∀ q : SemLoc sig, q.isScoped .tc = false → q = .reg barS := by decide

theorem unscopedSems_eq (c : Dev nD) : (unscopedSems0 c : sProp 𝕄) = semVal (barCell c) 0 := by
  unfold unscopedSems0
  rw [show (Finset.univ.filter fun q : SemLoc sig => ¬ q.isScoped .tc) = {SemLoc.reg barS} from by decide, BI.bigSep_singleton]

/-! ## The region -/

abbrev kept : Finset (DevRef τ sig) := Pipeline.ucRefs τ sig \ Pipeline.arrRefs spec0

theorem arr_uc : Pipeline.arrRefs spec0 ⊆ Pipeline.ucRefs τ sig := Pipeline.arrRefs_sub_ucRefs spec0 (by decide)

theorem end_ne (c : Dev nD) (r : Ref sig .tc) (h : r ≠ main_v26) : VEnd m c (Proc.devRef .tc r) = V1 m c r :=
  Function.update_of_ne (fun e => h (Proc.devRef_injective _ e)) _ _

theorem end_out (c : Dev nD) : VEnd m c (Proc.devRef .tc main_v26) = OUT (start m) c := Function.update_self _ _ _

theorem kitP : Pipeline.PLaunchFacts (nD := nD) (τ := τ) (pcfgs (F := F)) 0 where
  cellOf_inj a := by rw [Subsingleton.elim a adm]; exact cellOf_inj
  win := winFacts0
  pre := Pipeline.PreFacts.none _
  block_pos := block_pos0
  arr_whole := arr_whole0
  stage_whole := stage_whole0

theorem hin (c : Dev nD) : iprop(Pipeline.scopedRest (Ix := Unit) (Name := ℕ) (U := UU) (Lvl := ℕ) (Val := Elt F) (Pipeline.pin (pcfgs (F := F)) adm 0).spec c
      ∗ (∃ r, prngReg c r) ∗ StableHlo.held (c : Thread nD τ) ∅ (V1 m c) ∗ readied m c) ⊢ (pdats m 0 c).Φ 0 := by
  show _ ⊢ phi0 m c
  rw [show Pipeline.scopedRest (Ix := Unit) (Name := ℕ) (U := UU) (Lvl := ℕ) (Val := Elt F) (Pipeline.pin (pcfgs (F := F)) adm 0).spec c = _ from scopedRest0_eq c]
  unfold phi0 readied
  iintro ⟨B, Hp, -, HX⟩
  isplitl [HX]; · iexact HX
  isplitl [B]; · iexact B
  iexact Hp

theorem hout (c : Dev nD) : (pdats m 0 c).Φ (Fin.last (Pipeline.pin (pcfgs (F := F)) adm 0).N)
    ⊢ iprop(Pipeline.scopedRest (Ix := Unit) (Name := ℕ) (U := UU) (Lvl := ℕ) (Val := Elt F) (Pipeline.pin (pcfgs (F := F)) adm 0).spec c
      ∗ (∃ r, prngReg c r) ∗ StableHlo.held (c : Thread nD τ) ∅ (VEnd m c) ∗ Pipeline.ownSems0 osem c ∗ spent c) := by
  show phi1 c ⊢ _
  rw [show Pipeline.scopedRest (Ix := Unit) (Name := ℕ) (U := UU) (Lvl := ℕ) (Val := Elt F) (Pipeline.pin (pcfgs (F := F)) adm 0).spec c = _ from scopedRest0_eq c,
    ownSems_eq, show StableHlo.held (c : Thread nD τ) ∅ (VEnd m c) = (iprop(emp) : sProp 𝕄) from BI.bigSep_empty]
  unfold phi1 spent
  iintro ⟨⟨Hb, Hz⟩, B, Hp⟩
  isplitl [B]; · iexact B
  isplitl [Hp]; · iexact Hp
  isplitr; · iempintro
  isplitl [Hz]; · iexact Hz
  iexact Hb

theorem owed_above (c : Dev nD) (g : GSem nD τ sig) (u : Unit) (h : 0 < O₀ c g u) : u ∈ L g ∧ 0 < lv g u := by
  cases u
  rw [owed_start] at h
  by_cases h1 : g = barCell (xN c)
  · subst h1; exact ⟨by rw [L_tc]; exact Finset.mem_singleton_self _, Nat.one_pos⟩
  by_cases h2 : g = barCell (yN c)
  · subst h2; exact ⟨by rw [L_tc]; exact Finset.mem_singleton_self _, Nat.one_pos⟩
  rw [if_neg h1, if_neg h2, Nat.add_zero] at h
  rcases Nat.add_pos_iff_pos_or_pos.mp h with h | h
  · obtain ⟨j, hj⟩ := sum_pos _ _ _ h
    rw [tally_self] at hj
    by_cases e : g = cell (yN c) 1 j
    · subst e; exact ⟨by rw [L_tc]; exact Finset.mem_singleton_self _, by rw [lv_cell]; decide⟩
    · rw [if_neg e] at hj; exact absurd hj (Nat.lt_irrefl 0)
  · obtain ⟨j, hj⟩ := sum_pos _ _ _ h
    rw [tally_self] at hj
    by_cases e : g = cell (xN c) 3 j
    · subst e; exact ⟨by rw [L_tc]; exact Finset.mem_singleton_self _, by rw [lv_cell]; decide⟩
    · rw [if_neg e] at hj; exact absurd hj (Nat.lt_irrefl 0)

theorem cutD (c : Dev nD) (t : Fin (cfg0.N + 1)) (g : GSem nD τ sig) (u : Unit) (h : 0 < (dat0 m c).owed t g u) : u ∈ L g ∧ 0 < lv g u := by
  refine owed_above c g u ?_
  have e : (dat0 m c).owed t = if t.val = 0 then O₀ c else 0 := rfl
  rw [e] at h
  by_cases h0 : t.val = 0
  · rw [if_pos h0] at h; exact h
  · rw [if_neg h0] at h; exact absurd h (Nat.lt_irrefl 0)

theorem stage_kind : ∀ (w : Fin 4) (s : Fin (spec0 w).nbuf), ¬ aOf ((spec0 w).sem s) = 1 ∧ ¬ aOf ((spec0 w).sem s) = 3 := by decide
theorem stage_low (c : Dev nD) (w : Fin 4) (s : Fin (spec0 w).nbuf) : lv ((c : Thread nD τ), SemLoc.dma ((spec0 w).sem s)) () ≤ 0 := by
  show (if aOf ((spec0 w).sem s) = 1 then 2 else if aOf ((spec0 w).sem s) = 3 then 3 else 0) ≤ 0
  rw [if_neg (stage_kind w s).1, if_neg (stage_kind w s).2]

set_option backward.isDefEq.respectTransparency.types false in
def reg : Pipeline.RegionSeg (pcfgs (F := F)) adm (pdats m) () defs₀ 𝒱₀ L lv 0 :=
  Pipeline.RegionSeg.ofTalk (pcfgs (F := F)) adm (pdats m) () defs₀ 𝒱₀ L lv 0 osem (by decide : Pipeline.OwnSemFacts spec0 osem)
    ∅ kept (Finset.empty_subset _) kitP rfl (fun c => (body m c).loose) (fun _ => 0) O₀
    (fun c => (show (dat0 m c).owed 0 = O₀ c from rfl).trans (zero_add _).symm)
    (fun c => show (dat0 m c).owed (Fin.last cfg0.N) = 0 from rfl)
    (fun _ => rfl) (fun c w => (dat0 m c).share_full (fun _ => rfl) w) (V1 m) (VEnd m)
    (fun c b hb => Function.update_of_ne (fun e => by
      subst e
      exact (Finset.mem_sdiff.mp (Finset.mem_sdiff.mp hb).1).2 (Finset.mem_map.mpr ⟨main_v26, Finset.mem_image.mpr ⟨3, Finset.mem_univ _, rfl⟩, rfl⟩)) _ _)
    (tied m) spent (readied m) spent
    (fun c => by rw [ownSems_eq]; exact hopen (start m) c)
    (hin m) (hout m) (fun c => by iintro H; imodintro; iexact H) (fun _ => 0)
    ⟨fun c w s => Finset.mem_singleton_self _, fun c w s => stage_low c w s, fun c t g i h => cutD m c t g i h⟩
    (fun _ => iprop(emp)) (fun c w => rfl)
    (fun c w => match w with
      | ⟨0, _⟩ => (Dat.arrAt_in (dat0 m c) 0 rfl _).trans (end_ne m c main_v20 (by decide)).symm
      | ⟨1, _⟩ => (Dat.arrAt_in (dat0 m c) 1 rfl _).trans (end_ne m c main_v24 (by decide)).symm
      | ⟨2, _⟩ => (Dat.arrAt_in (dat0 m c) 2 rfl _).trans (end_ne m c main_v25 (by decide)).symm
      | ⟨3, _⟩ => (out_final m c).trans (end_out m c).symm)

/-- Around the region: what device `c` has when it enters it, and when it has left it. -/
def rest (c : Dev nD) : sProp 𝕄 := iprop(tied m c ∗ (∃ r, prngReg c r) ∗ ∃ W, owes (c : Thread nD τ) (O₀ c) W)

theorem reg_pre (c : Dev nD) : iprop(StableHlo.held (c : Thread nD τ) (Pipeline.ucRefs τ sig) (V1 m c) ∗ rest m c) ⊢ (reg m).pre c := by
  show _ ⊢ iprop(StableHlo.held (c.tc : Thread nD τ) (Pipeline.arrRefs spec0) (V1 m c) ∗ (∃ r, prngReg c r)
    ∗ (StableHlo.held (c.tc : Thread nD τ) kept (V1 m c) ∗ emp) ∗ tied m c ∗ ∃ Wd, owes (c : Thread nD τ) (0 + O₀ c) Wd)
  rw [zero_add, StableHlo.held_sub_split (c.tc) arr_uc (V1 m c)]
  unfold rest
  iintro ⟨⟨Ha, Hk⟩, Ht, Hp, HO⟩
  isplitl [Ha]; · iexact Ha
  isplitl [Hp]; · iexact Hp
  isplitl [Hk]
  · isplitl [Hk]; · iexact Hk
    iempintro
  isplitl [Ht]; · iexact Ht
  iexact HO

theorem reg_post (c : Dev nD) : (reg m).post c ⊢ iprop((StableHlo.held (c : Thread nD τ) (Pipeline.ucRefs τ sig) (VEnd m c) ∗ spent c)
    ∗ ∃ W, owes (c : Thread nD τ) (0 : CellTallies nD τ sig Unit) W) := by
  show iprop(StableHlo.held (c.tc : Thread nD τ) (Pipeline.arrRefs spec0) (VEnd m c) ∗ (∃ r, prngReg c r)
    ∗ (StableHlo.held (c.tc : Thread nD τ) kept (VEnd m c) ∗ emp) ∗ spent c ∗ ∃ Wd, owes (c : Thread nD τ) 0 Wd) ⊢ _
  rw [StableHlo.held_sub_split (c.tc) arr_uc (VEnd m c)]
  iintro ⟨Ha, -, ⟨Hk, -⟩, Ht, HO⟩
  isplitr [HO]
  · isplitr [Ht]
    · isplitl [Ha]; · iexact Ha
      iexact Hk
    iexact Ht
  iexact HO

/-! ## The launch of the four devices -/

def u₀ : UU := (initOf (Pipeline.cells (Pipeline.pin (pcfgs (F := F)) adm) cellOf_inj) (Pipeline.launchToks (Pipeline.pin (pcfgs (F := F)) adm) cellOf_inj),
  launchOf bars cells allToks)

def gift : sProp 𝕄 := BI.own (ER (launchOf bars cells allToks))
def G (c : Dev nD) : sProp 𝕄 := if c = 0 then gift else iprop(emp)

theorem gift_eq : (bigSep Finset.univ (G (F := F))) = gift := by
  have h : bigSep (Finset.univ.erase (0 : Dev nD)) (G (F := F)) = iprop(emp) :=
    (bigSep_congr fun c hc => if_neg (Finset.ne_of_mem_erase hc)).trans (bigSep_emp_const _)
  rw [bigSep_univ_at _ (0 : Dev nD), h, show (G (F := F) 0) = gift from if_pos rfl]
  exact BI.equiv_iff.mp sep_emp

/-- Device `c`'s launch holdings beside the exchange's own state. -/
def bundle (c : Dev nD) : sProp 𝕄 :=
  iprop(StableHlo.held (c : Thread nD τ) (Pipeline.ucRefs τ sig) (V0 m c) ∗ (cred (tallyAt (barCell c) () 2) ∗ bigSep Finset.univ fun k => arrive c k)
    ∗ owes (c : Thread nD τ) (O₀ c) ∅ ∗ ∃ r, prngReg c r)

theorem first_intro (K : GSem nD τ sig → ℕ) (c : Dev nD) : iprop(facts (start m) K ∗ (deal c ∗ bundle m c))
    ⊢ iprop(StableHlo.held (c : Thread nD τ) (Pipeline.ucRefs τ sig) (V0 m c) ∗ rest m c) := by
  unfold bundle rest tied Tk
  iintro ⟨#HF, Hd, Hh, ⟨Hc, Ha⟩, HO, Hp⟩
  isplitl [Hh]; · iexact Hh
  isplitl [Hd Hc Ha]
  · isplitl [Hd]
    · iexists K
      isplitr; · iexact HF
      iexact Hd
    isplitl [Hc]; · iexact Hc
    iexact Ha
  isplitl [Hp]; · iexact Hp
  iexists ∅; iexact HO

theorem bars_map (Φ : GSem nD τ sig → sProp 𝕄) : bigSep bars Φ = bigSep Finset.univ fun c : Dev nD => Φ (barCell c) := by
  unfold bars; rw [bigSep_map]; rfl
theorem cells_map (Φ : GSem nD τ sig → sProp 𝕄) : bigSep cells Φ
    = bigSep Finset.univ fun c : Dev nD => bigSep Finset.univ fun k : Fin 8 => bigSep Finset.univ fun a : Fin 4 => Φ (cell c a k) := by
  unfold cells; rw [bigSep_map, bigSep_univ_prod]
  refine bigSep_congr fun c _ => ?_
  have h : (bigSep Finset.univ fun k : Fin 8 => bigSep Finset.univ fun a : Fin 4 => Φ (cell c a k))
      = bigSep Finset.univ fun a : Fin 4 => bigSep Finset.univ fun k : Fin 8 => Φ (cell c a k) := by
    rw [bigSep_four, bigSep_congr fun k _ => bigSep_four fun a => Φ (cell c a k), bigSep_sep', bigSep_sep', bigSep_sep']
  rw [bigSep_univ_prod, h]; rfl

theorem init :
    iprop((bigSep Finset.univ fun c : Dev nD => iprop(unscopedBufs c (fun b => m ((c : Thread nD τ).loc b)) ∗ unscopedSems0 c
          ∗ owes (c : Thread nD τ) (O₀ c) ∅ ∗ Pipeline.launchCred O₀ c ∗ prngReg c (ρ c) ∗ G c)) ∗ levAts L lv)
      ⊢ (|={Set.univ}=> bigSep Finset.univ fun c : Dev nD => iprop(StableHlo.held (c : Thread nD τ) (Pipeline.ucRefs τ sig) (V0 m c) ∗ rest m c) : sProp 𝕄) := by
  have hcore (c : Dev nD) : iprop(unscopedBufs c (fun b => m ((c : Thread nD τ).loc b)) ∗ unscopedSems0 c
        ∗ owes (c : Thread nD τ) (O₀ c) ∅ ∗ Pipeline.launchCred O₀ c ∗ prngReg c (ρ c) ∗ G c)
      ⊢ (iprop(bundle m c ∗ (semVal (barCell c) 0 ∗ G c)) : sProp 𝕄) := by
    rw [show unscopedBufs c (fun b => m ((c : Thread nD τ).loc b)) = StableHlo.held (c : Thread nD τ) (Pipeline.ucRefs τ sig) (V0 m c) from Pipeline.unscopedBufs_held c (V0 m c), unscopedSems_eq]
    unfold bundle
    iintro ⟨Hh, Hus, HO, Hcr, Hp, HG⟩
    ihave Hc := (creds (F := F) c) $$ Hcr
    isplitl [Hh Hc HO Hp]
    · isplitl [Hh]; · iexact Hh
      isplitl [Hc]; · iexact Hc
      isplitl [HO]; · iexact HO
      iexists (ρ c); iexact Hp
    isplitl [Hus] <;> iassumption
  have hdeal : iprop((bigSep bars fun g => (atPos ER g 0 ∅ 0 : sProp 𝕄)) ∗ (bigSep cells fun g => (openTok ER g : sProp 𝕄))
        ∗ bigSep allToks fun t => (dutyTok ER t.1 t.2.1 t.2.2 : sProp 𝕄)) ⊢ bigSep Finset.univ fun c : Dev nD => (deal c : sProp 𝕄) := by
    rw [bars_map, cells_map, toks_dealt, ← bigSep_sep', ← bigSep_sep']
    exact bigSep_mono fun c _ => BI.Entails.refl _
  iintro ⟨H, -⟩
  ihave H' := (show (bigSep Finset.univ fun c : Dev nD => iprop(unscopedBufs c (fun b => m ((c : Thread nD τ).loc b)) ∗ unscopedSems0 c
          ∗ owes (c : Thread nD τ) (O₀ c) ∅ ∗ Pipeline.launchCred O₀ c ∗ prngReg c (ρ c) ∗ G c))
      ⊢ (bigSep Finset.univ fun c : Dev nD => iprop(bundle m c ∗ (semVal (barCell c) 0 ∗ G c)) : sProp 𝕄) from bigSep_mono fun c _ => hcore c) $$ H
  ihave H2 := (Entails.of_eq (bigSep_sep' ..)) $$ H'; icases H2 with ⟨HB, H3⟩
  ihave H4 := (Entails.of_eq (bigSep_sep' ..)) $$ H3; icases H4 with ⟨Hv, HG⟩
  ihave Hu := (show bigSep Finset.univ (G (F := F)) ⊢ BI.own (ER (launchOf bars cells allToks)) from Entails.of_eq gift_eq) $$ HG
  imod (Rounds.fund_launch ER (Rd (start m)) cells_disjoint (fun g _ h => h) allToks) $$ [Hv Hu] with ⟨%κ, -, #Hinv, #Hr, Hat, Hopen, Htok⟩
  · isplitl [Hv]
    · iapply (Entails.of_eq (bars_map (F := F) fun g => semVal g 0).symm) $$ Hv
    · iexact Hu
  imodintro
  iapply (bigSep_with_persistent (R := facts (start m) κ) (Φ := fun c => iprop(deal c ∗ bundle m c)) fun c _ => first_intro m κ c)
  isplitr
  · unfold facts
    isplitr; · unfold invs; iexact Hinv
    iexact Hr
  iapply (Entails.of_eq (bigSep_sep' ..).symm)
  isplitr [HB]
  · iapply hdeal
    isplitl [Hat]; · iexact Hat
    isplitl [Hopen]; · iexact Hopen
    iexact Htok
  · iexact HB

theorem end_arg (c : Dev nD) (r : Ref sig .tc) (h : r ≠ main_v26) (h' : r ∉ hostOps0_W) : VEnd m c (Proc.devRef .tc r) = m ((c : Thread nD τ).loc r) :=
  (end_ne m c r h).trans (V1_of m c r h')

set_option backward.isDefEq.respectTransparency.types false in
/-- The run: from any memory with zero counters every weakly fair execution of the program on the four devices terminates; the
    arguments are as launched, the result holds the exchanged and normalised rows, and every semaphore counter is at zero. -/
theorem run_main : θ_run defs (onTc (τ := τ) (main (F := F))) ⟨m, fun _ => 0, ρ⟩
    (fun r => (∀ c : Dev nD, r.2.mem ((c : Thread nD τ).loc main_v26) = OUT (start m) c
        ∧ r.2.mem ((c : Thread nD τ).loc main_arg0) = m ((c : Thread nD τ).loc main_arg0)
        ∧ r.2.mem ((c : Thread nD τ).loc main_arg1) = m ((c : Thread nD τ).loc main_arg1)) ∧ r.2.sem = fun _ => 0) :=
  Pipeline.θ_run_regions_kit_dev_sems (pcfgs (F := F)) adm (pdats m) () cellOf_inj EP defs₀ 𝒱₀ L lv m ρ main
    (segs m 𝒱₀ L lv (fun _ => rest m) () (pdats m) (reg m))
    (fun c Q => by
      rewrite [main_chain c, Pipeline.Seg.run_eq_chain,
        show (segs m 𝒱₀ L lv (fun _ => rest m) () (pdats m) (reg m) c).map Pipeline.Seg.prog = [
          StableHlo.seq (hostOps0 c),
          Prog.lift (.customCall (Pipeline.entry 0) ()) ] from rfl]
      dsimp (config := { failIfUnchanged := false }) only
      exact .rfl)
    (fun c => by simp only [segs, Pipeline.Seg.pipes_host, Pipeline.Seg.pipes_region, Pipeline.Seg.pipes_nil]; decide)
    O₀ L_of_ne G u₀
    (by
      unfold u₀
      iintro Hu
      ihave H := (ownU_pair _ _) $$ Hu
      icases H with ⟨HP, HX⟩
      imodintro
      isplitl [HP]; · iexact HP
      rw [gift_eq]; unfold gift; iexact HX)
    (T₀ := fun c => iprop(StableHlo.held (c : Thread nD τ) (Pipeline.ucRefs τ sig) (V0 m c) ∗ rest m c))
    (Tₙ := fun c => iprop(StableHlo.held (c : Thread nD τ) (Pipeline.ucRefs τ sig) (VEnd m c) ∗ spent c))
    (hch := fun c => ⟨.rfl, reg_pre m c, reg_post m c⟩)
    (hinit := init m ρ)
    (QY := fun c s => (s.mem ((c : Thread nD τ).loc main_v26) = OUT (start m) c
        ∧ s.mem ((c : Thread nD τ).loc main_arg0) = m ((c : Thread nD τ).loc main_arg0)
        ∧ s.mem ((c : Thread nD τ).loc main_arg1) = m ((c : Thread nD τ).loc main_arg1)) ∧ s.sem (barCell c) = 0)
    (hfin := fun c s' => by
      unfold StableHlo.held spent
      iintro ⟨⟨Hh, Hb0⟩, HSI⟩
      icombine HSI Hb0 gives %hb
      ihave Hr := (pointsTo_read_all (Pipeline.ucRefs τ sig) (fun b => ((c : Thread nD τ).1, b)) (VEnd m c) s') $$ [Hh HSI]
      · isplitl [Hh] <;> iassumption
      icases Hr with ⟨%h, HSI⟩
      imodintro
      isplitr
      · ipureintro
        exact ⟨⟨(h (Proc.devRef .tc main_v26) (Finset.mem_filter.mpr ⟨StableHlo.devRef_mem_tcRefs main_v26, by decide⟩)).trans (end_out m c),
          (h (Proc.devRef .tc main_arg0) (Finset.mem_filter.mpr ⟨StableHlo.devRef_mem_tcRefs main_arg0, by decide⟩)).trans (end_arg m c main_arg0 (by decide) (by decide)),
          (h (Proc.devRef .tc main_arg1) (Finset.mem_filter.mpr ⟨StableHlo.devRef_mem_tcRefs main_arg1, by decide⟩)).trans (end_arg m c main_arg1 (by decide) (by decide))⟩,
          by simpa using hb⟩
      · iexact HSI)
    (hQ := fun s h hs => ⟨fun c => (h c).1, sem_eq_zero hs fun c q hq => by
        obtain rfl := unscoped_eq q hq
        exact (h c).2⟩)

end Cert.KernelIdeal.Talk

end
-- ==== Proof.Ideal.Host.lean ====
/- What the host line leaves in the region's operands. -/
module

public import proofs.«01_k».proof.Proof.Ideal.Launch
public import Idealize.ShloMosaic.Lib.StableHlo.RunClose

@[expose] public section

noncomputable section

namespace Cert.KernelIdeal.Talk

open Idealize.ShloMosaic Idealize.ShloMosaic.TcCoe
open Cert.KernelIdeal Cert.KernelIdeal.Gen

variable {F : FTy → Type} [FloatOps F]

variable (m : (ℓ : Loc nD τ sig) → Buf (Elt F) ℓ)

/-- The first row of the slice a device keeps, and of the slice it sends. -/
def keepAt (c : Dev nD) : ℤ := 1024 * (c.val % 2 : ℕ) + 512 * (c.val / 2 : ℕ)
def sendAt (c : Dev nD) : ℤ := 1024 * (1 - c.val % 2 : ℕ) + 512 * (c.val / 2 : ℕ)

/-- The host's words: a mesh position of a device, and a row number wrapped as jax wraps an index. -/
def posWord (c : Dev nD) (d : BitVec 32) : BitVec 32 := IntOp.remui .host (IntOp.divui .host c.word d) 2#32
def rowWord (p x : BitVec 32) : BitVec 32 := IntOp.addi (IntOp.muli p 1024#32) (IntOp.muli x 512#32)
def wrapWord (r : BitVec 32) : BitVec 32 :=
  if IntOp.cmpi .slt r 0#32 = 1 then IntOp.addi r 2048#32 else r

theorem keepAt_word : ∀ c : Dev nD, (wrapWord (rowWord (posWord c 1#32) (posWord c 2#32))).toInt = keepAt c := by decide

theorem sendAt_word : ∀ c : Dev nD,
    (wrapWord (rowWord (IntOp.subi 1#32 (posWord c 1#32)) (posWord c 2#32))).toInt = sendAt c := by decide

theorem V1_g (c : Dev nD) : (V1 m c main_v25 : (⟨S1x1024, .bf16⟩ : BufTy).Contents (Elt F))
    = shapeCast S1x1024 (m ((c.tc : Thread nD τ).loc main_arg1) : (⟨S1024, .bf16⟩ : BufTy).Contents (Elt F)) shapeCasts_S1024_S1x1024 := by
  after_results
  rfl

theorem V1_pl (c : Dev nD) : (V1 m c main_v24 : (⟨S512x1024, .bf16⟩ : BufTy).Contents (Elt F))
    = Host.dynamicSlice S512x1024 (shapeCast S2048x1024 (m ((c.tc : Thread nD τ).loc main_arg0) : (⟨S1x2048x1024, .bf16⟩ : BufTy).Contents (Elt F)) shapeCasts_S1x2048x1024_S2048x1024)
      ![keepAt c, 0] sliceFits_S2048x1024_S512x1024 := by
  after_results_simp_entrywise
  refine congrArg (fun i => Host.dynamicSlice S512x1024 (shapeCast S2048x1024 (m ((c.tc : Thread nD τ).loc main_arg0) : (⟨S1x2048x1024, .bf16⟩ : BufTy).Contents (Elt F)) shapeCasts_S1x2048x1024_S2048x1024) i sliceFits_S2048x1024_S512x1024) (funext fun k => ?_)
  match k with
  | ⟨0, _⟩ =>
    exact keepAt_word c
  | ⟨1, _⟩ => rfl

theorem V1_ps (c : Dev nD) : (V1 m c main_v20 : (⟨S512x1024, .bf16⟩ : BufTy).Contents (Elt F))
    = Host.dynamicSlice S512x1024 (shapeCast S2048x1024 (m ((c.tc : Thread nD τ).loc main_arg0) : (⟨S1x2048x1024, .bf16⟩ : BufTy).Contents (Elt F)) shapeCasts_S1x2048x1024_S2048x1024)
      ![sendAt c, 0] sliceFits_S2048x1024_S512x1024 := by
  after_results_simp_entrywise
  refine congrArg (fun i => Host.dynamicSlice S512x1024 (shapeCast S2048x1024 (m ((c.tc : Thread nD τ).loc main_arg0) : (⟨S1x2048x1024, .bf16⟩ : BufTy).Contents (Elt F)) shapeCasts_S1x2048x1024_S2048x1024) i sliceFits_S2048x1024_S512x1024) (funext fun k => ?_)
  match k with
  | ⟨0, _⟩ =>
    exact sendAt_word c
  | ⟨1, _⟩ => rfl

end Cert.KernelIdeal.Talk

end
-- ==== Proof.Ideal.Value.lean ====
/- The kernel's result over the extended reals, element by element, and the reference's: the same number. -/
module

public import proofs.«01_k».proof.Proof.Ideal.Host
public import proofs.«01_k».proof.Proof.Gen.ReferenceIdeal.Run
public import Idealize.ShloMosaic.Lib.Pointwise
public import Idealize.ShloMosaic.Lib.Layout
public import Idealize.ShloMosaic.Lib.Pipeline.ValueKit.Geometry
public import Idealize.ShloMosaic.Lib.DynamicIndex

@[expose] public section

set_option maxRecDepth 16384

noncomputable section

namespace Cert.KernelIdeal.Talk

open Idealize.ShloMosaic Idealize.ShloMosaic.TcCoe
open Cert.KernelIdeal Cert.KernelIdeal.Gen

/-- The mean of the squares of a row of 1024, with the epsilon. -/
def meanSq (f : Fin 1024 → EReal) : EReal :=
  Ideal.div (∑ k, f k * f k) (Ideal.ofBits .f32 0x44800000#32) + Ideal.ofBits .f32 0x358637BD#32

theorem ofBits_width : Ideal.ofBits .f32 0x44800000#32 = ((1024 : ℝ) : EReal) := by
  simp [Ideal.ofBits, Ideal.ieee, -EReal.coe_mul]; norm_num

theorem ofBits_eps_pos : 0 < Ideal.ofBits .f32 0x358637BD#32 := by
  simp [Ideal.ofBits, Ideal.ieee, -EReal.coe_mul]

theorem mul_self_nonneg' (x : EReal) : 0 ≤ x * x := by
  induction x with
  | bot => simp
  | top => simp
  | coe r => exact_mod_cast mul_self_nonneg r

theorem meanSq_pos (f : Fin 1024 → EReal) : 0 < meanSq f := by
  have h0 : 0 ≤ ∑ k, f k * f k := Finset.sum_nonneg fun k _ => mul_self_nonneg' (f k)
  unfold meanSq
  rw [ofBits_width, Ideal.div_coe (by norm_num)]
  refine lt_of_lt_of_le ofBits_eps_pos ?_
  exact le_add_of_nonneg_left (mul_nonneg h0 (by exact_mod_cast (by norm_num : (0:ℝ) ≤ 1 / 1024)))

/-- Dividing by the root of a positive number is multiplying by its reciprocal root. -/
theorem div_sqrt (a : EReal) {v : EReal} (hv : 0 < v) : Ideal.div a (Ideal.sqrt v) = a * Ideal.rsqrt v := by
  induction v with
  | bot => exact absurd hv (by simp)
  | top => simp [Ideal.div]
  | coe r =>
    have hr : 0 < r := by exact_mod_cast hv
    rw [Ideal.sqrt_coe, Ideal.rsqrt_coe, if_neg (not_lt.mpr hr.le), if_neg (not_lt.mpr hr.le), if_neg hr.ne',
      Ideal.div_coe (Real.sqrt_pos.mpr hr).ne', one_div]

theorem pay29_at (v : Vec Ideal S64x1024 .bf16) (g : Vec Ideal S1x1024 .bf16) (i : Fin 64) (j : Fin 1024) :
    k0_pay29 v g (ix2 i j) = v (ix2 i j) * (Ideal.rsqrt (meanSq fun k => v (ix2 i k)) * g (ix2 0 j)) := by
  pointwise [k0_pay29]
  rfl

end Cert.KernelIdeal.Talk

namespace Cert.ReferenceIdeal.Value

open Idealize.ShloMosaic Idealize.ShloMosaic.TcCoe
open Cert.ReferenceIdeal Cert.ReferenceIdeal.Gen
open Cert.KernelIdeal.Talk (meanSq)

variable (A : (⟨S2x2048x1024, .bf16⟩ : BufTy).Contents (Elt Ideal)) (G : (⟨S1024, .bf16⟩ : BufTy).Contents (Elt Ideal))

/-- The sum of the devices' contributions, over the extended reals. -/
def total (r : Fin 2048) (j : Fin 1024) : EReal := ∑ x : Fin 2, A (ix3 x r j)

theorem total_two (y : Fin 2) (r : Fin 2048) (j : Fin 1024) : total A r j = A (ix3 (1 - y) r j) + A (ix3 y r j) := by
  have h : total A r j = A (ix3 0 r j) + A (ix3 1 r j) := Fin.sum_univ_two _
  fin_cases y
  · exact h.trans (add_comm (G := EReal) _ _)
  · exact h

/-- The reference's first sum, as its run composes it. -/
abbrev sumR : FVec Ideal S2048x1024 .f32 :=
  Host.reduceAdd (extf .f32 A bitsLt_bf16_f32) (constant S_ .f32 0x00000000#32) reducesTo_S2x2048x1024_S2048x1024_d0 h_S_

/-- The reference's result, as its run composes it. -/
abbrev resR : FVec Ideal S2048x1024 .f32 :=
  mulf (Host.divf (sumR A) (broadcastInDim S2048x1024 ![0, 1] bcast_S2048x1_S2048x1024_0_1 (Host.sqrt (addf (Host.divf (broadcastInDim S2048x1 ![0] bcast_S2048_S2048x1_0
    (Host.reduceAdd (mulf (sumR A) (sumR A)) (constant S_ .f32 0x00000000#32) reducesTo_S2048x1024_S2048_d1 h_S_)) (broadcastInDim S2048x1 ![] bcast_S_S2048x1 (constant S_ .f32 0x44800000#32)))
    (broadcastInDim S2048x1 ![] bcast_S_S2048x1 (constant S_ .f32 0x358637BD#32))))))
    (broadcastInDim S2048x1024 ![0, 1] bcast_S1x1024_S2048x1024_0_1 (broadcastInDim S1x1024 ![1] bcast_S1024_S1x1024_1 (extf .f32 G bitsLt_bf16_f32)))

theorem resR_at (r : Fin 2048) (j : Fin 1024) :
    resR A G (ix2 r j) = Ideal.div (total A r j) (Ideal.sqrt (meanSq (total A r))) * G (ix1 j) := by
  pointwise
  rfl

end Cert.ReferenceIdeal.Value

namespace Cert.KernelIdeal.Talk

open Idealize.ShloMosaic Idealize.ShloMosaic.TcCoe
open Cert.KernelIdeal Cert.KernelIdeal.Gen
open Cert.ReferenceIdeal.Value (total total_two resR resR_at)

variable (m : (ℓ : Loc nD τ sig) → Buf (Elt Ideal) ℓ)
  (A : (⟨⟨3, ![2, 2048, 1024]⟩, .bf16⟩ : BufTy).Contents (Elt Ideal)) (G : (⟨S1024, .bf16⟩ : BufTy).Contents (Elt Ideal))

/-- A device holds the contribution its place along `y` names, and the whole of the gain. -/
def Holds : Prop := ∀ c : Dev nD,
  m ((c.tc : Thread nD τ).loc main_arg0) = Layout.blockN ⟨3, ![1, 2048, 1024]⟩ ⟨3, ![2, 2048, 1024]⟩ (Layout.meshBlock [2, 2] ![[1], [], []] c) A
  ∧ m ((c.tc : Thread nD τ).loc main_arg1) = G

/-- A device's place along `y`. -/
def yOf (c : Dev nD) : Fin 2 := ⟨c.val % 2, Nat.mod_lt _ (by decide)⟩

theorem yOf_yN : ∀ c : Dev nD, yOf (yN c) = 1 - yOf c := by decide

theorem sendAt_yN : ∀ c : Dev nD, sendAt (yN c) = ((1024 * (c.val % 2) + 512 * (c.val / 2) : ℕ) : ℤ) := by decide

theorem meshLin_y : ∀ c : Dev nD, Layout.meshLin [2, 2] c.val [1] = c.val % 2 := by decide

theorem xN_half : ∀ (c : Dev nD) (n : Fin 2), n.val ≠ c.val / 2 → (xN c).val / 2 = n.val ∧ (xN c).val % 2 = c.val % 2 := by decide

/-- 512 rows of a device's block, from row `b`. -/
theorem half_at (c : Dev nD) (b : ℕ) (hb : b + 512 ≤ 2048) (r : Fin 512) (j : Fin 1024) :
    Host.dynamicSlice S512x1024 (shapeCast S2048x1024 (Layout.blockN ⟨3, ![1, 2048, 1024]⟩ ⟨3, ![2, 2048, 1024]⟩ (Layout.meshBlock [2, 2] ![[1], [], []] c) A
        : (⟨S1x2048x1024, .bf16⟩ : BufTy).Contents (Elt Ideal)) shapeCasts_S1x2048x1024_S2048x1024)
      ![(b : ℤ), 0] sliceFits_S2048x1024_S512x1024 (ix2 r j)
      = A (ix3 (yOf c) ⟨b + r.val, by omega⟩ j) := by
  have hs : S2048x1024.Slices ![b, 0] S512x1024 := ⟨rfl, fun a => by
    match a with
    | ⟨0, _⟩ => exact hb
    | ⟨1, _⟩ => exact le_refl 1024⟩
  rw [Host.dynamicSlice_eq_extractStridedSlice S512x1024 _ _ ![b, 0] _ hs (fun a => by
    match a with
    | ⟨0, _⟩ => rfl
    | ⟨1, _⟩ => rfl)]
  refine (shapeCast_dropUnit_apply ![2048, 1024] _ shapeCasts_S1x2048x1024_S2048x1024 _).trans ?_
  refine congrArg A (funext fun a => Fin.ext ?_)
  match a with
  | ⟨0, _⟩ =>
    show Layout.meshLin [2, 2] c.val [1] * 1 + 0 = c.val % 2
    rw [meshLin_y, Nat.mul_one, Nat.add_zero]
  | ⟨1, _⟩ =>
    show 0 * 2048 + (b + r.val) = b + r.val
    omega
  | ⟨2, _⟩ =>
    show 0 * 1024 + (0 + j.val) = j.val
    omega

variable {m A G}

theorem pl_at (h : Holds m A G) (c : Dev nD) (r : Fin 512) (j : Fin 1024) (hr : 1024 * (c.val % 2) + 512 * (c.val / 2) + r.val < 2048) :
    (start m).pl c (ix2 r j) = A (ix3 (yOf c) ⟨1024 * (c.val % 2) + 512 * (c.val / 2) + r.val, hr⟩ j) := by
  have hc : c.val < 4 := c.isLt
  refine (congrFun (V1_pl m c) (ix2 r j)).trans ?_
  rw [(h c).1]
  exact half_at A c (1024 * (c.val % 2) + 512 * (c.val / 2)) (by omega) r j

theorem ps_at (h : Holds m A G) (c : Dev nD) (r : Fin 512) (j : Fin 1024) (hr : 1024 * (c.val % 2) + 512 * (c.val / 2) + r.val < 2048) :
    (start m).ps (yN c) (ix2 r j) = A (ix3 (1 - yOf c) ⟨1024 * (c.val % 2) + 512 * (c.val / 2) + r.val, hr⟩ j) := by
  have hc : c.val < 4 := c.isLt
  refine (congrFun (V1_ps m (yN c)) (ix2 r j)).trans ?_
  rw [(h (yN c)).1, sendAt_yN, ← yOf_yN]
  exact half_at A (yN c) (1024 * (c.val % 2) + 512 * (c.val / 2)) (by omega) r j

theorem chR_ix2 (k : Fin 8) (i : Fin 64) (j : Fin 1024) : (chR k).emb (ix2 i j) = ix2 ⟨64 * k.val + i.val, by omega⟩ j := by
  funext a
  match a with
  | ⟨0, _⟩ => exact Fin.ext (ValueKit.rect_emb_unit_val ..)
  | ⟨1, _⟩ => exact Fin.ext ((ValueKit.rect_emb_unit_val ..).trans (Nat.zero_add _))

theorem sumv_at (h : Holds m A G) (c : Dev nD) (k : Fin 8) (i : Fin 64) (j : Fin 1024) (R : Fin 2048)
    (hR : R.val = 1024 * (c.val % 2) + 512 * (c.val / 2) + (64 * k.val + i.val)) :
    sumv (start m) c k (ix2 i j) = total A R j := by
  have hlt : 1024 * (c.val % 2) + 512 * (c.val / 2) + (64 * k.val + i.val) < 2048 := hR ▸ R.isLt
  rw [show R = ⟨1024 * (c.val % 2) + 512 * (c.val / 2) + (64 * k.val + i.val), hlt⟩ from Fin.ext hR]
  rw [total_two A (yOf c)]
  have h1 : sumv (start m) c k (ix2 i j) = rdc ((start m).ps (yN c)) k (ix2 i j) + rdc ((start m).pl c) k (ix2 i j) := by
    unfold sumv k0_pay1
    rw [shapeCast_self]
    rfl
  rw [h1]
  unfold rdc
  rw [chR_ix2]
  exact congrArg₂ (· + ·) (ps_at h c _ j _) (pl_at h c _ j _)

theorem g_at (h : Holds m A G) (c : Dev nD) (j : Fin 1024) : (start m).g c (ix2 0 j) = G (ix1 j) := by
  refine (congrFun (V1_g m c) (ix2 0 j)).trans ?_
  rw [(h c).2]
  refine (shapeCast_addUnit_apply ![1024] G shapeCasts_S1024_S1x1024 (ix2 0 j)).trans (congrArg G (funext fun a => ?_))
  match a with
  | ⟨0, _⟩ => rfl

theorem outVal_at (h : Holds m A G) (c : Dev nD) (q : Fin 16) (i : Fin 64) (j : Fin 1024) (R : Fin 2048)
    (hR : R.val = 1024 * (c.val % 2) + (64 * q.val + i.val)) : outVal (start m) c q (ix2 i j) = resR A G (ix2 R j) := by
  have hs : ∀ k, sumv (start m) (if q.val / 8 = c.val / 2 then c else xN c) ⟨q.val % 8, Nat.mod_lt _ (by decide)⟩ (ix2 i k) = total A R k := fun k => by
    have hc : c.val < 4 := c.isLt
    have hq := q.isLt
    refine sumv_at h _ _ i k R ?_
    split
    · show R.val = _ + (64 * (q.val % 8) + i.val)
      omega
    · rename_i hn
      have hx := xN_half c ⟨q.val / 8, by omega⟩ hn
      rw [hx.1, hx.2]
      show R.val = 1024 * (c.val % 2) + 512 * (q.val / 8) + (64 * (q.val % 8) + i.val)
      omega
  rw [resR_at, div_sqrt _ (meanSq_pos _), mul_assoc, ← g_at h c j]
  refine (pay29_at _ _ i j).trans ?_
  simp only [hs]

/-- What a device ends with: its part of the reference's result. -/
theorem OUT_eq (h : Holds m A G) (c : Dev nD) :
    OUT (start m) c = Layout.blockN ⟨2, ![1024, 1024]⟩ ⟨2, ![2048, 1024]⟩ (Layout.meshBlock [2, 2] ![[1], []] c) (resR A G) := by
  funext i
  obtain ⟨q, x, rfl⟩ := out_at i
  have hq := q.isLt
  have hx0 : (x 0).val < 64 := (x 0).isLt
  obtain ⟨a, j, rfl⟩ : ∃ a j, x = ix2 a j := ⟨x 0, x 1, eq_ix2 x⟩
  rw [OUT_emb, outVal_at h c q a j ⟨1024 * (c.val % 2) + (64 * q.val + a.val), by have := a.isLt; omega⟩ rfl]
  refine congrArg (resR A G) (funext fun b => Fin.ext ?_)
  match b with
  | ⟨0, _⟩ =>
    have e : ((outR q).emb (ix2 a j) 0).val = 64 * q.val + a.val := ValueKit.rect_emb_unit_val ..
    show 1024 * (c.val % 2) + (64 * q.val + a.val) = Layout.meshLin [2, 2] c.val [1] * 1024 + ((outR q).emb (ix2 a j) 0).val
    rw [e, meshLin_y, Nat.mul_comm]
  | ⟨1, _⟩ =>
    have e : ((outR q).emb (ix2 a j) 1).val = 0 + j.val := ValueKit.rect_emb_unit_val ..
    show j.val = 0 * 1024 + ((outR q).emb (ix2 a j) 1).val
    rw [e]
    omega

end Cert.KernelIdeal.Talk

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Regions
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Regions
public import proofs.«01_k».proof.Proof.Gen.KernelIdeal.Points
public import proofs.«01_k».proof.Proof.Gen.ReferenceIdeal
public import proofs.«01_k».proof.Proof.Gen.ReferenceIdeal.Run
public import proofs.«01_k».proof.Proof.Bits.Launch
public import proofs.«01_k».proof.Proof.Ideal.Value
public import Idealize.ShloMosaic.Adequacy
public import Idealize.ShloMosaic.Init

@[expose] public section

noncomputable section

namespace Cert.Proof

open Idealize.ShloMosaic Idealize.SL.Sem

/-- The kernel's frame: its run, with the value of the result left out. -/
theorem frame_kernel : Cert.quiescent_Kernel := fun m g _ =>
  (θ_run _ _ _).mono (fun _ h => ⟨fun c => (h.1 c).2, h.2⟩) (Cert.Kernel.Talk.run_main m g)

/-- The idealized kernel's frame. -/
theorem frame_ideal : Cert.quiescent_KernelIdeal := fun m g _ =>
  (θ_run _ _ _).mono (fun _ h => ⟨fun c => (h.1 c).2, h.2⟩) (Cert.KernelIdeal.Talk.run_main m g)

/-- The reference's frame; it has no semaphore. -/
theorem frame_reference : Cert.quiescent_ReferenceIdeal := fun m g _ =>
  (θ_run _ _ _).mono (fun r h => ⟨fun c => (h c).2, sem_eq_zero_of_no_sems (by decide) r.2⟩) (Cert.ReferenceIdeal.Value.run m g)

/-- The idealized kernel computes the reference: each device ends with its block of the reference's result. -/
theorem value : Cert.algebraic_KernelIdeal_ReferenceIdeal := fun m g m' g' _ hm =>
  ⟨_, (θ_run _ _ _).mono (fun _ h c => ⟨(h.1 c).1.trans (Cert.KernelIdeal.Talk.OUT_eq hm c), (h.1 c).2⟩) (Cert.KernelIdeal.Talk.run_main m g),
    (θ_run _ _ _).mono (fun _ h => h 0) (Cert.ReferenceIdeal.Value.run m' g')⟩

theorem claim : Cert.Claim := ⟨Cert.Kernel.Gen.facts, Cert.KernelIdeal.Gen.facts, Cert.ReferenceIdeal.Gen.facts,
  frame_kernel, frame_ideal, frame_reference, trivial, value⟩

end Cert.Proof

end
